-- ==== Defs.lean ====
def Pre_Kernel [hPre_in_pool : Cert.Pre_in_pool.Facts] (m : (ℓ : Loc Cert.Kernel.nD Cert.Kernel.τ Cert.Kernel.sig) → Buf (Elt Bits) ℓ) : Prop :=
  ∀ c : Dev Cert.Kernel.nD,
    (Cert.Pre_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_pool : Cert.Pre_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_in_pool : Cert.Pre_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidReferenceIdeal (m : (ℓ : Loc Cert.FfnMidReferenceIdeal.nD Cert.FfnMidReferenceIdeal.τ Cert.FfnMidReferenceIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalReferenceIdeal (m : (ℓ : Loc Cert.FfnFinalReferenceIdeal.nD Cert.FfnFinalReferenceIdeal.τ Cert.FfnFinalReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Kernel [hKernel : Cert.Kernel.Facts] [hPre_in_pool : Cert.Pre_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_in_pool : Cert.Pre_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidReferenceIdeal [hFfnMidReferenceIdeal : Cert.FfnMidReferenceIdeal.Facts] : Prop :=
  ∀ (m : (ℓ : Loc Cert.FfnMidReferenceIdeal.nD Cert.FfnMidReferenceIdeal.τ Cert.FfnMidReferenceIdeal.sig) → Buf (Elt Ideal) ℓ) (g : Dev Cert.FfnMidReferenceIdeal.nD → PrngReg), Pre_FfnMidReferenceIdeal m →
    θ_run (Cert.FfnMidReferenceIdeal.defs (F := Ideal)) (onTc (τ := Cert.FfnMidReferenceIdeal.τ) (Cert.FfnMidReferenceIdeal.main (F := Ideal))) ⟨m, fun _ => 0, g⟩ (fun r => (∀ c : Dev Cert.FfnMidReferenceIdeal.nD,
      r.2.mem ((c.tc : Thread Cert.FfnMidReferenceIdeal.nD Cert.FfnMidReferenceIdeal.τ).loc Cert.FfnMidReferenceIdeal.main_arg0) = m ((c.tc : Thread Cert.FfnMidReferenceIdeal.nD Cert.FfnMidReferenceIdeal.τ).loc Cert.FfnMidReferenceIdeal.main_arg0)
      ∧ r.2.mem ((c.tc : Thread Cert.FfnMidReferenceIdeal.nD Cert.FfnMidReferenceIdeal.τ).loc Cert.FfnMidReferenceIdeal.main_arg1) = m ((c.tc : Thread Cert.FfnMidReferenceIdeal.nD Cert.FfnMidReferenceIdeal.τ).loc Cert.FfnMidReferenceIdeal.main_arg1)
      ∧ r.2.mem ((c.tc : Thread Cert.FfnMidReferenceIdeal.nD Cert.FfnMidReferenceIdeal.τ).loc Cert.FfnMidReferenceIdeal.main_arg2) = m ((c.tc : Thread Cert.FfnMidReferenceIdeal.nD Cert.FfnMidReferenceIdeal.τ).loc Cert.FfnMidReferenceIdeal.main_arg2)
      ∧ r.2.mem ((c.tc : Thread Cert.FfnMidReferenceIdeal.nD Cert.FfnMidReferenceIdeal.τ).loc Cert.FfnMidReferenceIdeal.main_arg3) = m ((c.tc : Thread Cert.FfnMidReferenceIdeal.nD Cert.FfnMidReferenceIdeal.τ).loc Cert.FfnMidReferenceIdeal.main_arg3)
      ∧ r.2.mem ((c.tc : Thread Cert.FfnMidReferenceIdeal.nD Cert.FfnMidReferenceIdeal.τ).loc Cert.FfnMidReferenceIdeal.main_arg4) = m ((c.tc : Thread Cert.FfnMidReferenceIdeal.nD Cert.FfnMidReferenceIdeal.τ).loc Cert.FfnMidReferenceIdeal.main_arg4))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_FfnFinalReferenceIdeal [hFfnFinalReferenceIdeal : Cert.FfnFinalReferenceIdeal.Facts] : Prop :=
  ∀ (m : (ℓ : Loc Cert.FfnFinalReferenceIdeal.nD Cert.FfnFinalReferenceIdeal.τ Cert.FfnFinalReferenceIdeal.sig) → Buf (Elt Ideal) ℓ) (g : Dev Cert.FfnFinalReferenceIdeal.nD → PrngReg), Pre_FfnFinalReferenceIdeal m →
    θ_run (Cert.FfnFinalReferenceIdeal.defs (F := Ideal)) (onTc (τ := Cert.FfnFinalReferenceIdeal.τ) (Cert.FfnFinalReferenceIdeal.main (F := Ideal))) ⟨m, fun _ => 0, g⟩ (fun r => (∀ c : Dev Cert.FfnFinalReferenceIdeal.nD,
      r.2.mem ((c.tc : Thread Cert.FfnFinalReferenceIdeal.nD Cert.FfnFinalReferenceIdeal.τ).loc Cert.FfnFinalReferenceIdeal.main_arg0) = m ((c.tc : Thread Cert.FfnFinalReferenceIdeal.nD Cert.FfnFinalReferenceIdeal.τ).loc Cert.FfnFinalReferenceIdeal.main_arg0)
      ∧ r.2.mem ((c.tc : Thread Cert.FfnFinalReferenceIdeal.nD Cert.FfnFinalReferenceIdeal.τ).loc Cert.FfnFinalReferenceIdeal.main_arg1) = m ((c.tc : Thread Cert.FfnFinalReferenceIdeal.nD Cert.FfnFinalReferenceIdeal.τ).loc Cert.FfnFinalReferenceIdeal.main_arg1)
      ∧ r.2.mem ((c.tc : Thread Cert.FfnFinalReferenceIdeal.nD Cert.FfnFinalReferenceIdeal.τ).loc Cert.FfnFinalReferenceIdeal.main_arg2) = m ((c.tc : Thread Cert.FfnFinalReferenceIdeal.nD Cert.FfnFinalReferenceIdeal.τ).loc Cert.FfnFinalReferenceIdeal.main_arg2)
      ∧ r.2.mem ((c.tc : Thread Cert.FfnFinalReferenceIdeal.nD Cert.FfnFinalReferenceIdeal.τ).loc Cert.FfnFinalReferenceIdeal.main_arg3) = m ((c.tc : Thread Cert.FfnFinalReferenceIdeal.nD Cert.FfnFinalReferenceIdeal.τ).loc Cert.FfnFinalReferenceIdeal.main_arg3)
      ∧ r.2.mem ((c.tc : Thread Cert.FfnFinalReferenceIdeal.nD Cert.FfnFinalReferenceIdeal.τ).loc Cert.FfnFinalReferenceIdeal.main_arg4) = m ((c.tc : Thread Cert.FfnFinalReferenceIdeal.nD Cert.FfnFinalReferenceIdeal.τ).loc Cert.FfnFinalReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_FfnMid_FfnMidIdeal : Prop :=
  True

def algebraic_FfnMidIdeal_FfnMidReferenceIdeal [hFfnMidIdeal : Cert.FfnMidIdeal.Facts] [hFfnMidReferenceIdeal : Cert.FfnMidReferenceIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidReferenceIdeal.nD Cert.FfnMidReferenceIdeal.τ Cert.FfnMidReferenceIdeal.sig) → Buf (Elt Ideal) ℓ) (g' : Dev Cert.FfnMidReferenceIdeal.nD → PrngReg), Pre_FfnMidIdeal m →
    (∀ c : Dev Cert.FfnMidIdeal.nD,
      m' ((c.tc : Thread Cert.FfnMidReferenceIdeal.nD Cert.FfnMidReferenceIdeal.τ).loc Cert.FfnMidReferenceIdeal.main_arg0) = m ((c.tc : Thread Cert.FfnMidIdeal.nD Cert.FfnMidIdeal.τ).loc Cert.FfnMidIdeal.main_arg0)
      ∧ m' ((c.tc : Thread Cert.FfnMidReferenceIdeal.nD Cert.FfnMidReferenceIdeal.τ).loc Cert.FfnMidReferenceIdeal.main_arg1) = m ((c.tc : Thread Cert.FfnMidIdeal.nD Cert.FfnMidIdeal.τ).loc Cert.FfnMidIdeal.main_arg1)
      ∧ m' ((c.tc : Thread Cert.FfnMidReferenceIdeal.nD Cert.FfnMidReferenceIdeal.τ).loc Cert.FfnMidReferenceIdeal.main_arg2) = m ((c.tc : Thread Cert.FfnMidIdeal.nD Cert.FfnMidIdeal.τ).loc Cert.FfnMidIdeal.main_arg2)
      ∧ m' ((c.tc : Thread Cert.FfnMidReferenceIdeal.nD Cert.FfnMidReferenceIdeal.τ).loc Cert.FfnMidReferenceIdeal.main_arg3) = m ((c.tc : Thread Cert.FfnMidIdeal.nD Cert.FfnMidIdeal.τ).loc Cert.FfnMidIdeal.main_arg3)
      ∧ m' ((c.tc : Thread Cert.FfnMidReferenceIdeal.nD Cert.FfnMidReferenceIdeal.τ).loc Cert.FfnMidReferenceIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v7)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v7) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidReferenceIdeal.defs (F := Ideal)) (onTc (τ := Cert.FfnMidReferenceIdeal.τ) (Cert.FfnMidReferenceIdeal.main (F := Ideal))) ⟨m', fun _ => 0, g'⟩ (fun r => ∀ c : Dev Cert.FfnMidReferenceIdeal.nD,
          r.2.mem ((c.tc : Thread Cert.FfnMidReferenceIdeal.nD Cert.FfnMidReferenceIdeal.τ).loc Cert.FfnMidReferenceIdeal.main_v24) = v0 c
          ∧ r.2.mem ((c.tc : Thread Cert.FfnMidReferenceIdeal.nD Cert.FfnMidReferenceIdeal.τ).loc Cert.FfnMidReferenceIdeal.main_arg0) = m' ((c.tc : Thread Cert.FfnMidReferenceIdeal.nD Cert.FfnMidReferenceIdeal.τ).loc Cert.FfnMidReferenceIdeal.main_arg0)
          ∧ r.2.mem ((c.tc : Thread Cert.FfnMidReferenceIdeal.nD Cert.FfnMidReferenceIdeal.τ).loc Cert.FfnMidReferenceIdeal.main_arg1) = m' ((c.tc : Thread Cert.FfnMidReferenceIdeal.nD Cert.FfnMidReferenceIdeal.τ).loc Cert.FfnMidReferenceIdeal.main_arg1)
          ∧ r.2.mem ((c.tc : Thread Cert.FfnMidReferenceIdeal.nD Cert.FfnMidReferenceIdeal.τ).loc Cert.FfnMidReferenceIdeal.main_arg2) = m' ((c.tc : Thread Cert.FfnMidReferenceIdeal.nD Cert.FfnMidReferenceIdeal.τ).loc Cert.FfnMidReferenceIdeal.main_arg2)
          ∧ r.2.mem ((c.tc : Thread Cert.FfnMidReferenceIdeal.nD Cert.FfnMidReferenceIdeal.τ).loc Cert.FfnMidReferenceIdeal.main_arg3) = m' ((c.tc : Thread Cert.FfnMidReferenceIdeal.nD Cert.FfnMidReferenceIdeal.τ).loc Cert.FfnMidReferenceIdeal.main_arg3)
          ∧ r.2.mem ((c.tc : Thread Cert.FfnMidReferenceIdeal.nD Cert.FfnMidReferenceIdeal.τ).loc Cert.FfnMidReferenceIdeal.main_arg4) = m' ((c.tc : Thread Cert.FfnMidReferenceIdeal.nD Cert.FfnMidReferenceIdeal.τ).loc Cert.FfnMidReferenceIdeal.main_arg4))

def preserves_FfnFinal_FfnFinalIdeal : Prop :=
  True

def algebraic_FfnFinalIdeal_FfnFinalReferenceIdeal [hFfnFinalIdeal : Cert.FfnFinalIdeal.Facts] [hFfnFinalReferenceIdeal : Cert.FfnFinalReferenceIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalReferenceIdeal.nD Cert.FfnFinalReferenceIdeal.τ Cert.FfnFinalReferenceIdeal.sig) → Buf (Elt Ideal) ℓ) (g' : Dev Cert.FfnFinalReferenceIdeal.nD → PrngReg), Pre_FfnFinalIdeal m →
    (∀ c : Dev Cert.FfnFinalIdeal.nD,
      m' ((c.tc : Thread Cert.FfnFinalReferenceIdeal.nD Cert.FfnFinalReferenceIdeal.τ).loc Cert.FfnFinalReferenceIdeal.main_arg0) = m ((c.tc : Thread Cert.FfnFinalIdeal.nD Cert.FfnFinalIdeal.τ).loc Cert.FfnFinalIdeal.main_arg0)
      ∧ m' ((c.tc : Thread Cert.FfnFinalReferenceIdeal.nD Cert.FfnFinalReferenceIdeal.τ).loc Cert.FfnFinalReferenceIdeal.main_arg1) = m ((c.tc : Thread Cert.FfnFinalIdeal.nD Cert.FfnFinalIdeal.τ).loc Cert.FfnFinalIdeal.main_arg1)
      ∧ m' ((c.tc : Thread Cert.FfnFinalReferenceIdeal.nD Cert.FfnFinalReferenceIdeal.τ).loc Cert.FfnFinalReferenceIdeal.main_arg2) = m ((c.tc : Thread Cert.FfnFinalIdeal.nD Cert.FfnFinalIdeal.τ).loc Cert.FfnFinalIdeal.main_arg2)
      ∧ m' ((c.tc : Thread Cert.FfnFinalReferenceIdeal.nD Cert.FfnFinalReferenceIdeal.τ).loc Cert.FfnFinalReferenceIdeal.main_arg3) = m ((c.tc : Thread Cert.FfnFinalIdeal.nD Cert.FfnFinalIdeal.τ).loc Cert.FfnFinalIdeal.main_arg3)
      ∧ m' ((c.tc : Thread Cert.FfnFinalReferenceIdeal.nD Cert.FfnFinalReferenceIdeal.τ).loc Cert.FfnFinalReferenceIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v7)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v7) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.FfnFinalReferenceIdeal.defs (F := Ideal)) (onTc (τ := Cert.FfnFinalReferenceIdeal.τ) (Cert.FfnFinalReferenceIdeal.main (F := Ideal))) ⟨m', fun _ => 0, g'⟩ (fun r => ∀ c : Dev Cert.FfnFinalReferenceIdeal.nD,
          r.2.mem ((c.tc : Thread Cert.FfnFinalReferenceIdeal.nD Cert.FfnFinalReferenceIdeal.τ).loc Cert.FfnFinalReferenceIdeal.main_v37) = v0 c
          ∧ r.2.mem ((c.tc : Thread Cert.FfnFinalReferenceIdeal.nD Cert.FfnFinalReferenceIdeal.τ).loc Cert.FfnFinalReferenceIdeal.main_arg0) = m' ((c.tc : Thread Cert.FfnFinalReferenceIdeal.nD Cert.FfnFinalReferenceIdeal.τ).loc Cert.FfnFinalReferenceIdeal.main_arg0)
          ∧ r.2.mem ((c.tc : Thread Cert.FfnFinalReferenceIdeal.nD Cert.FfnFinalReferenceIdeal.τ).loc Cert.FfnFinalReferenceIdeal.main_arg1) = m' ((c.tc : Thread Cert.FfnFinalReferenceIdeal.nD Cert.FfnFinalReferenceIdeal.τ).loc Cert.FfnFinalReferenceIdeal.main_arg1)
          ∧ r.2.mem ((c.tc : Thread Cert.FfnFinalReferenceIdeal.nD Cert.FfnFinalReferenceIdeal.τ).loc Cert.FfnFinalReferenceIdeal.main_arg2) = m' ((c.tc : Thread Cert.FfnFinalReferenceIdeal.nD Cert.FfnFinalReferenceIdeal.τ).loc Cert.FfnFinalReferenceIdeal.main_arg2)
          ∧ r.2.mem ((c.tc : Thread Cert.FfnFinalReferenceIdeal.nD Cert.FfnFinalReferenceIdeal.τ).loc Cert.FfnFinalReferenceIdeal.main_arg3) = m' ((c.tc : Thread Cert.FfnFinalReferenceIdeal.nD Cert.FfnFinalReferenceIdeal.τ).loc Cert.FfnFinalReferenceIdeal.main_arg3)
          ∧ r.2.mem ((c.tc : Thread Cert.FfnFinalReferenceIdeal.nD Cert.FfnFinalReferenceIdeal.τ).loc Cert.FfnFinalReferenceIdeal.main_arg4) = m' ((c.tc : Thread Cert.FfnFinalReferenceIdeal.nD Cert.FfnFinalReferenceIdeal.τ).loc Cert.FfnFinalReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def Claim : Prop :=
  ∃ (hKernel : Cert.Kernel.Facts) (hKernelIdeal : Cert.KernelIdeal.Facts) (hReferenceIdeal : Cert.ReferenceIdeal.Facts) (hFfnMid : Cert.FfnMid.Facts) (hFfnMidIdeal : Cert.FfnMidIdeal.Facts) (hFfnMidReferenceIdeal : Cert.FfnMidReferenceIdeal.Facts) (hFfnFinal : Cert.FfnFinal.Facts) (hFfnFinalIdeal : Cert.FfnFinalIdeal.Facts) (hFfnFinalReferenceIdeal : Cert.FfnFinalReferenceIdeal.Facts) (hOutProj : Cert.OutProj.Facts) (hOutProjIdeal : Cert.OutProjIdeal.Facts) (hOutProjReferenceIdeal : Cert.OutProjReferenceIdeal.Facts) (hPre_in_pool : Cert.Pre_in_pool.Facts),
    quiescent_Kernel (hKernel := hKernel) (hPre_in_pool := hPre_in_pool)
    ∧ quiescent_KernelIdeal (hKernelIdeal := hKernelIdeal) (hPre_in_pool := hPre_in_pool)
    ∧ quiescent_ReferenceIdeal (hReferenceIdeal := hReferenceIdeal) (hPre_in_pool := hPre_in_pool)
    ∧ quiescent_FfnMid (hFfnMid := hFfnMid)
    ∧ quiescent_FfnMidIdeal (hFfnMidIdeal := hFfnMidIdeal)
    ∧ quiescent_FfnMidReferenceIdeal (hFfnMidReferenceIdeal := hFfnMidReferenceIdeal)
    ∧ quiescent_FfnFinal (hFfnFinal := hFfnFinal)
    ∧ quiescent_FfnFinalIdeal (hFfnFinalIdeal := hFfnFinalIdeal)
    ∧ quiescent_FfnFinalReferenceIdeal (hFfnFinalReferenceIdeal := hFfnFinalReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Kernel_KernelIdeal
    ∧ algebraic_KernelIdeal_ReferenceIdeal (hKernelIdeal := hKernelIdeal) (hReferenceIdeal := hReferenceIdeal) (hPre_in_pool := hPre_in_pool)
    ∧ preserves_FfnMid_FfnMidIdeal
    ∧ algebraic_FfnMidIdeal_FfnMidReferenceIdeal (hFfnMidIdeal := hFfnMidIdeal) (hFfnMidReferenceIdeal := hFfnMidReferenceIdeal)
    ∧ preserves_FfnFinal_FfnFinalIdeal
    ∧ algebraic_FfnFinalIdeal_FfnFinalReferenceIdeal (hFfnFinalIdeal := hFfnFinalIdeal) (hFfnFinalReferenceIdeal := hFfnFinalReferenceIdeal)
    ∧ preserves_OutProj_OutProjIdeal
    ∧ algebraic_OutProjIdeal_OutProjReferenceIdeal (hOutProjIdeal := hOutProjIdeal) (hOutProjReferenceIdeal := hOutProjReferenceIdeal)
-- ==== Pre_in_pool.lean ====
abbrev S32x1x8x128 : Shape := ⟨4, ![32, 1, 8, 128]⟩
abbrev S1x5120x128x8x128 : Shape := ⟨5, ![1, 5120, 128, 8, 128]⟩
abbrev S32x128 : Shape := ⟨2, ![32, 128]⟩
abbrev S1x64 : Shape := ⟨2, ![1, 64]⟩
abbrev S1x128 : Shape := ⟨2, ![1, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S32x1x8x128 .f32) (main_arg1 : FVec F S32x1x8x128 .f32) (main_arg2 : FVec F S32x1x8x128 .f32) (main_arg3 : FVec F S1x5120x128x8x128 .f32) (main_arg4 : FVec F S1x5120x128x8x128 .f32) (main_arg5 : IVec S32x128 32) (main_arg6 : FVec F S1x64 .f32) (main_arg7 : FVec F S1x64 .f32) (main_arg8 : FVec F S1x64 .f32) (main_arg9 : FVec F S1x64 .f32) (main_arg10 : FVec F S1x128 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg5 main_v0
  let main_c_0 : IVec S_ 32 := constantI S_ 32 5120#32
  let main_v2 : IVec S32x128 32 := broadcastInDim S32x128 ![] bcast_S_S32x128 main_c_0
  let main_v3 : IVec S32x128 1 := cmpi .slt main_arg5 main_v2
  let main_v4 : IVec S32x128 1 := andi main_v1 main_v3
  main_v4
-- ==== Kernel.lean ====
abbrev S32x1x8x128 : Shape := ⟨4, ![32, 1, 8, 128]⟩
abbrev S1x5120x128x8x128 : Shape := ⟨5, ![1, 5120, 128, 8, 128]⟩
abbrev S32x128 : Shape := ⟨2, ![32, 128]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S_ : Shape := ⟨0, ![]⟩
abbrev S32x8x128 : Shape := ⟨3, ![32, 8, 128]⟩
abbrev S128 : Shape := ⟨1, ![128]⟩
abbrev S5120x1024x128 : Shape := ⟨3, ![5120, 1024, 128]⟩
abbrev S1x8x128 : Shape := ⟨3, ![1, 8, 128]⟩
abbrev S1x1024x128 : Shape := ⟨3, ![1, 1024, 128]⟩
abbrev S1x1 : Shape := ⟨2, ![1, 1]⟩
abbrev S16x1 : Shape := ⟨2, ![16, 1]⟩
abbrev S16x128 : Shape := ⟨2, ![16, 128]⟩
abbrev S8x128 : Shape := ⟨2, ![8, 128]⟩
abbrev S8 : Shape := ⟨1, ![8]⟩
abbrev S8x1 : Shape := ⟨2, ![8, 1]⟩
abbrev S16x1024 : Shape := ⟨2, ![16, 1024]⟩
abbrev S1024x128 : Shape := ⟨2, ![1024, 128]⟩
abbrev S16 : Shape := ⟨1, ![16]⟩
abbrev S1 : Shape := ⟨1, ![1]⟩

abbrev nBuf : Space → Nat
  | .hbm => 31
  | .vmem => 45
  | .smem => 1
  | _ => 0

abbrev bufTy : (tb : Table) → Fin (tcTables nBuf tb) → BufTy
  | .hbm, ⟨0, _⟩ => ⟨S32x1x8x128, .f32⟩
  | .hbm, ⟨1, _⟩ => ⟨S32x1x8x128, .f32⟩
  | .hbm, ⟨2, _⟩ => ⟨S32x1x8x128, .f32⟩
  | .hbm, ⟨3, _⟩ => ⟨S1x5120x128x8x128, .f32⟩
  | .hbm, ⟨4, _⟩ => ⟨S1x5120x128x8x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x64, .f32⟩
  | .hbm, ⟨19, _⟩ => ⟨S_, .f32⟩
  | .hbm, ⟨20, _⟩ => ⟨S32x1x8x128, .f32⟩
  | .hbm, ⟨21, _⟩ => ⟨S32x1x8x128, .f32⟩
  | .hbm, ⟨22, _⟩ => ⟨S32x1x8x128, .bf16⟩
  | .hbm, ⟨23, _⟩ => ⟨S32x8x128, .bf16⟩
  | .hbm, ⟨24, _⟩ => ⟨S32x8x128, .f32⟩
  | .hbm, ⟨25, _⟩ => ⟨S32x8x128, .f32⟩
  | .hbm, ⟨26, _⟩ => ⟨S128, .f32⟩
  | .hbm, ⟨27, _⟩ => ⟨S1x128, .f32⟩
  | .hbm, ⟨28, _⟩ => ⟨S5120x1024x128, .f32⟩
  | .hbm, ⟨29, _⟩ => ⟨S5120x1024x128, .f32⟩
  | .hbm, ⟨30, _⟩ => ⟨S32x8x128, .bf16⟩
  | .local _ .vmem, ⟨0, _⟩ => ⟨S1x8x128, .bf16⟩
  | .local _ .vmem, ⟨1, _⟩ => ⟨S1x8x128, .bf16⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S4x64, .f32⟩
  | .local _ .vmem, ⟨7, _⟩ => ⟨S1x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1024x128, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1x1024x128, .f32⟩
  | .local _ .vmem, ⟨27, _⟩ => ⟨S1x1024x128, .f32⟩
  | .local _ .vmem, ⟨28, _⟩ => ⟨S1x1024x128, .f32⟩
  | .local _ .vmem, ⟨29, _⟩ => ⟨S1x1024x128, .f32⟩
  | .local _ .vmem, ⟨30, _⟩ => ⟨S1x1024x128, .f32⟩
  | .local _ .vmem, ⟨31, _⟩ => ⟨S1x1024x128, .f32⟩
  | .local _ .vmem, ⟨32, _⟩ => ⟨S1x1024x128, .f32⟩
  | .local _ .vmem, ⟨33, _⟩ => ⟨S1x1024x128, .f32⟩
  | .local _ .vmem, ⟨34, _⟩ => ⟨S1x1024x128, .f32⟩
  | .local _ .vmem, ⟨35, _⟩ => ⟨S1x1024x128, .f32⟩
  | .local _ .vmem, ⟨36, _⟩ => ⟨S1x1024x128, .f32⟩
  | .local _ .vmem, ⟨37, _⟩ => ⟨S1x1024x128, .f32⟩
  | .local _ .vmem, ⟨38, _⟩ => ⟨S1x1024x128, .f32⟩
  | .local _ .vmem, ⟨39, _⟩ => ⟨S1x1024x128, .f32⟩
  | .local _ .vmem, ⟨40, _⟩ => ⟨S1x8x128, .bf16⟩
  | .local _ .vmem, ⟨41, _⟩ => ⟨S1x8x128, .bf16⟩
  | .local _ .vmem, ⟨42, _⟩ => ⟨S16x1, .f32⟩
  | .local _ .vmem, ⟨43, _⟩ => ⟨S16x1, .f32⟩
  | .local _ .vmem, ⟨44, _⟩ => ⟨S16x128, .f32⟩
  | .local _ .smem, ⟨0, _⟩ => ⟨S32x128, .i32⟩
  | _, _ => ⟨S32x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41

abbrev nD : Nat := 1
abbrev τ : Topo := Topo.v7x

variable {F : FTy → Type} [FloatOps F]

abbrev grid0 : Pipeline.Grid := ⟨2, ![32, 16], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_cond2 (i : grid0.Coords) : BitVec 1 :=
  let arg1 : BitVec 32 := BitVec.ofNat 32 (i 1).val
  let c15_i32 : BitVec 32 := 15#32
  let v233 : BitVec 1 := Scalar.cmpi .eq arg1 c15_i32
  let v234 : BitVec 32 := Scalar.extui v233
  let c0_i32_108 : BitVec 32 := 0#32
  let v235 : BitVec 1 := Scalar.cmpi .ne v234 c0_i32_108
  v235

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x128) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_6 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x128) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_7 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x128) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_8 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x128) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_9 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x128) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_10 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x128) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_11 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x128) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_12 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x128) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_13 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x128) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_14 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x128) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_15 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x128) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_16 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x128) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_17 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x128) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_18 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x128) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_19 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x128) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_20 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x128) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32x1x8x128 : Shape := ⟨4, ![32, 1, 8, 128]⟩
abbrev S1x5120x128x8x128 : Shape := ⟨5, ![1, 5120, 128, 8, 128]⟩
abbrev S32x128 : Shape := ⟨2, ![32, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S5120x128x8x128 : Shape := ⟨4, ![5120, 128, 8, 128]⟩
abbrev S32x128x1 : Shape := ⟨3, ![32, 128, 1]⟩
abbrev S32x128x128x8x128 : Shape := ⟨5, ![32, 128, 128, 8, 128]⟩
abbrev S32x16384x8x128 : Shape := ⟨4, ![32, 16384, 8, 128]⟩
abbrev S32x16385x8x128 : Shape := ⟨4, ![32, 16385, 8, 128]⟩
abbrev S32x1x8x64 : Shape := ⟨4, ![32, 1, 8, 64]⟩
abbrev S32x16385x8x64 : Shape := ⟨4, ![32, 16385, 8, 64]⟩
abbrev S32x8x1x16385 : Shape := ⟨4, ![32, 8, 1, 16385]⟩
abbrev S32x8x1 : Shape := ⟨3, ![32, 8, 1]⟩
abbrev S32x8x1x1 : Shape := ⟨4, ![32, 8, 1, 1]⟩
abbrev S32x8x1x128 : Shape := ⟨4, ![32, 8, 1, 128]⟩
abbrev S32x1x8 : Shape := ⟨3, ![32, 1, 8]⟩
abbrev S32x1x8x1 : Shape := ⟨4, ![32, 1, 8, 1]⟩
abbrev S128 : Shape := ⟨1, ![128]⟩
abbrev S1x1x1x128 : Shape := ⟨4, ![1, 1, 1, 128]⟩
abbrev S32x8x128 : Shape := ⟨3, ![32, 8, 128]⟩

abbrev nBuf : Space → Nat
  | .hbm => 112
  | .vmem => 0
  | .smem => 0
  | _ => 0

abbrev bufTy : (tb : Table) → Fin (tcTables nBuf tb) → BufTy
  | .hbm, ⟨0, _⟩ => ⟨S32x1x8x128, .f32⟩
  | .hbm, ⟨1, _⟩ => ⟨S32x1x8x128, .f32⟩
  | .hbm, ⟨2, _⟩ => ⟨S32x1x8x128, .f32⟩
  | .hbm, ⟨3, _⟩ => ⟨S1x5120x128x8x128, .f32⟩
  | .hbm, ⟨4, _⟩ => ⟨S1x5120x128x8x128, .f32⟩
  | .hbm, ⟨5, _⟩ => ⟨S32x128, .i32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S5120x128x8x128, .f32⟩
  | .hbm, ⟨27, _⟩ => ⟨S_, .i32⟩
  | .hbm, ⟨28, _⟩ => ⟨S32x128, .i32⟩
  | .hbm, ⟨29, _⟩ => ⟨S32x128, .i1⟩
  | .hbm, ⟨30, _⟩ => ⟨S_, .i32⟩
  | .hbm, ⟨31, _⟩ => ⟨S32x128, .i32⟩
  | .hbm, ⟨32, _⟩ => ⟨S32x128, .i32⟩
  | .hbm, ⟨33, _⟩ => ⟨S32x128, .i32⟩
  | .hbm, ⟨34, _⟩ => ⟨S32x128x1, .i32⟩
  | .hbm, ⟨35, _⟩ => ⟨S32x128x128x8x128, .f32⟩
  | .hbm, ⟨36, _⟩ => ⟨S32x16384x8x128, .f32⟩
  | .hbm, ⟨37, _⟩ => ⟨S32x16385x8x128, .f32⟩
  | .hbm, ⟨38, _⟩ => ⟨S5120x128x8x128, .f32⟩
  | .hbm, ⟨39, _⟩ => ⟨S_, .i32⟩
  | .hbm, ⟨40, _⟩ => ⟨S32x128, .i32⟩
  | .hbm, ⟨41, _⟩ => ⟨S32x128, .i1⟩
  | .hbm, ⟨42, _⟩ => ⟨S_, .i32⟩
  | .hbm, ⟨43, _⟩ => ⟨S32x128, .i32⟩
  | .hbm, ⟨44, _⟩ => ⟨S32x128, .i32⟩
  | .hbm, ⟨45, _⟩ => ⟨S32x128, .i32⟩
  | .hbm, ⟨46, _⟩ => ⟨S32x128x1, .i32⟩
  | .hbm, ⟨47, _⟩ => ⟨S32x128x128x8x128, .f32⟩
  | .hbm, ⟨48, _⟩ => ⟨S32x16384x8x128, .f32⟩
  | .hbm, ⟨49, _⟩ => ⟨S32x16385x8x128, .f32⟩
  | .hbm, ⟨50, _⟩ => ⟨S32x1x8x64, .f32⟩
  | .hbm, ⟨51, _⟩ => ⟨S32x16385x8x64, .f32⟩
  | .hbm, ⟨52, _⟩ => ⟨S32x8x1x16385, .f32⟩
  | .hbm, ⟨53, _⟩ => ⟨S_, .f32⟩
  | .hbm, ⟨54, _⟩ => ⟨S32x8x1x16385, .f32⟩
  | .hbm, ⟨55, _⟩ => ⟨S32x8x1x16385, .f32⟩
  | .hbm, ⟨56, _⟩ => ⟨S_, .f32⟩
  | .hbm, ⟨57, _⟩ => ⟨S32x8x1, .f32⟩
  | .hbm, ⟨58, _⟩ => ⟨S32x8x1x1, .f32⟩
  | .hbm, ⟨59, _⟩ => ⟨S32x8x1x16385, .f32⟩
  | .hbm, ⟨60, _⟩ => ⟨S32x8x1x16385, .f32⟩
  | .hbm, ⟨61, _⟩ => ⟨S32x8x1x16385, .f32⟩
  | .hbm, ⟨62, _⟩ => ⟨S32x8x1x128, .f32⟩
  | .hbm, ⟨63, _⟩ => ⟨S_, .f32⟩
  | .hbm, ⟨64, _⟩ => ⟨S32x8x1, .f32⟩
  | .hbm, ⟨65, _⟩ => ⟨S32x8x1x1, .f32⟩
  | .hbm, ⟨66, _⟩ => ⟨S32x8x1x128, .f32⟩
  | .hbm, ⟨67, _⟩ => ⟨S32x8x1x128, .f32⟩
  | .hbm, ⟨68, _⟩ => ⟨S32x1x8x64, .f32⟩
  | .hbm, ⟨69, _⟩ => ⟨S32x16385x8x64, .f32⟩
  | .hbm, ⟨70, _⟩ => ⟨S32x8x1x16385, .f32⟩
  | .hbm, ⟨71, _⟩ => ⟨S_, .f32⟩
  | .hbm, ⟨72, _⟩ => ⟨S32x8x1x16385, .f32⟩
  | .hbm, ⟨73, _⟩ => ⟨S32x8x1x16385, .f32⟩
  | .hbm, ⟨74, _⟩ => ⟨S_, .f32⟩
  | .hbm, ⟨75, _⟩ => ⟨S32x8x1, .f32⟩
  | .hbm, ⟨76, _⟩ => ⟨S32x8x1x1, .f32⟩
  | .hbm, ⟨77, _⟩ => ⟨S32x8x1x16385, .f32⟩
  | .hbm, ⟨78, _⟩ => ⟨S32x8x1x16385, .f32⟩
  | .hbm, ⟨79, _⟩ => ⟨S32x8x1x16385, .f32⟩
  | .hbm, ⟨80, _⟩ => ⟨S32x8x1x128, .f32⟩
  | .hbm, ⟨81, _⟩ => ⟨S_, .f32⟩
  | .hbm, ⟨82, _⟩ => ⟨S32x8x1, .f32⟩
  | .hbm, ⟨83, _⟩ => ⟨S32x8x1x1, .f32⟩
  | .hbm, ⟨84, _⟩ => ⟨S32x8x1x128, .f32⟩
  | .hbm, ⟨85, _⟩ => ⟨S32x8x1x128, .f32⟩
  | .hbm, ⟨86, _⟩ => ⟨S32x8x1x128, .f32⟩
  | .hbm, ⟨87, _⟩ => ⟨S32x8x1x128, .f32⟩
  | .hbm, ⟨88, _⟩ => ⟨S32x8x1x128, .f32⟩
  | .hbm, ⟨89, _⟩ => ⟨S32x1x8x128, .f32⟩
  | .hbm, ⟨90, _⟩ => ⟨S32x1x8x128, .f32⟩
  | .hbm, ⟨91, _⟩ => ⟨S_, .f32⟩
  | .hbm, ⟨92, _⟩ => ⟨S32x1x8, .f32⟩
  | .hbm, ⟨93, _⟩ => ⟨S32x1x8x1, .f32⟩
  | .hbm, ⟨94, _⟩ => ⟨S_, .f32⟩
  | .hbm, ⟨95, _⟩ => ⟨S32x1x8x1, .f32⟩
  | .hbm, ⟨96, _⟩ => ⟨S32x1x8x1, .f32⟩
  | .hbm, ⟨97, _⟩ => ⟨S_, .f32⟩
  | .hbm, ⟨98, _⟩ => ⟨S32x1x8x1, .f32⟩
  | .hbm, ⟨99, _⟩ => ⟨S32x1x8x1, .f32⟩
  | .hbm, ⟨100, _⟩ => ⟨S32x1x8x1, .f32⟩
  | .hbm, ⟨101, _⟩ => ⟨S32x1x8x128, .f32⟩
  | .hbm, ⟨102, _⟩ => ⟨S32x1x8x128, .f32⟩
  | .hbm, ⟨103, _⟩ => ⟨S128, .f32⟩
  | .hbm, ⟨104, _⟩ => ⟨S1x1x1x128, .f32⟩
  | .hbm, ⟨105, _⟩ => ⟨S32x1x8x128, .f32⟩
  | .hbm, ⟨106, _⟩ => ⟨S32x1x8x128, .f32⟩
  | .hbm, ⟨107, _⟩ => ⟨S_, .f32⟩
  | .hbm, ⟨108, _⟩ => ⟨S32x1x8x128, .f32⟩
  | .hbm, ⟨109, _⟩ => ⟨S32x1x8x128, .f32⟩
  | .hbm, ⟨110, _⟩ => ⟨S32x8x128, .f32⟩
  | .hbm, ⟨111, _⟩ => ⟨S32x8x128, .bf16⟩
  | _, _ => ⟨S32x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== FfnMid.lean ====
abbrev S32768x2048 : Shape := ⟨2, ![32768, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S1x2048, .f32⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnMidReferenceIdeal.lean ====
abbrev S32768x2048 : Shape := ⟨2, ![32768, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S32768x11264 : Shape := ⟨2, ![32768, 11264]⟩
abbrev S32768x5632 : Shape := ⟨2, ![32768, 5632]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x11264, .f32⟩
  | .hbm, ⟨25, _⟩ => ⟨S32768x5632, .f32⟩
  | .hbm, ⟨26, _⟩ => ⟨S32768x5632, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== FfnFinal.lean ====
abbrev S32768x2048 : Shape := ⟨2, ![32768, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S1x2048, .f32⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalReferenceIdeal.lean ====
abbrev S32768x2048 : Shape := ⟨2, ![32768, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S32768x11264 : Shape := ⟨2, ![32768, 11264]⟩
abbrev S32768x5632 : Shape := ⟨2, ![32768, 5632]⟩

abbrev nBuf : Space → Nat
  | .hbm => 58
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048, .f32⟩
  | .hbm, ⟨6, _⟩ => ⟨S2048x11264, .f32⟩
  | .hbm, ⟨7, _⟩ => ⟨S5632x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x11264, .f32⟩
  | .hbm, ⟨25, _⟩ => ⟨S32768x5632, .f32⟩
  | .hbm, ⟨26, _⟩ => ⟨S32768x5632, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S1x2048, .f32⟩
  | .hbm, ⟨56, _⟩ => ⟨S32768x2048, .f32⟩
  | .hbm, ⟨57, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== OutProj.lean ====
abbrev S32768x2048 : Shape := ⟨2, ![32768, 2048]⟩
abbrev S32768x1024 : Shape := ⟨2, ![32768, 1024]⟩
abbrev S1x2048x2048 : Shape := ⟨3, ![1, 2048, 2048]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjReferenceIdeal.lean ====
abbrev S32768x2048 : Shape := ⟨2, ![32768, 2048]⟩
abbrev S32768x1024 : Shape := ⟨2, ![32768, 1024]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S32768x1024, .f32⟩
  | .hbm, ⟨5, _⟩ => ⟨S32768x1024, .f32⟩
  | .hbm, ⟨6, _⟩ => ⟨S32768x2048, .f32⟩
  | .hbm, ⟨7, _⟩ => ⟨S2048x2048, .f32⟩
  | .hbm, ⟨8, _⟩ => ⟨S32768x2048, .f32⟩
  | .hbm, ⟨9, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.BitsClaim.lean ====
module

public import Idealize.ShloMosaic.Lib.Claim
public import Idealize.ShloMosaic.Lib.Pipeline.Value
public import proofs.«01_k».proof.Defs
public import proofs.«01_k».proof.Proof.BitsBody
public import proofs.«01_k».proof.Proof.BitsPages

@[expose] public section

set_option maxRecDepth 16384

noncomputable section

/-! # The decode kernel's frame, as compiled

The compiled program and the idealised one differ in the mask alone: a number here, a named constant there. -/

namespace Cert.BitsClaim

open Idealize.ShloMosaic Idealize.ShloMosaic.TcCoe Idealize.SL.Sem
open Cert.Kernel Cert.Kernel.Gen Cert.BitsPages

/-! ## The run at any values -/

section Frame

variable {F : FTy → Type} [FloatOps F] (m : (ℓ : Loc nD τ sig) → Buf (Elt F) ℓ) (ρ : Dev nD → PrngReg)

/-- The arguments of a device end as they began. -/
abbrev Kept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

/-- A buffer outside the pipeline ends as the region found it. -/
theorem kept (hO : Ok m) (r : PUnit × MemSt nD τ sig (Elt F))
    (h : Pipeline.FramePost (Pipeline.pin pcfgs fun _ => adm m hO) (dats m hO) 0 (V m) r) (c : Dev nD) : Kept m r.2 c :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c),
    ((h c).2 main_arg9 (by decide : main_arg9 ∈ Pipeline.restRefs sig spec0)).trans (V_main_arg9 m c),
    ((h c).2 main_arg10 (by decide : main_arg10 ∈ Pipeline.restRefs sig spec0)).trans (V_main_arg10 m c)⟩

theorem frame_any (hO : Ok m) : θ_run defs (onTc (τ := τ) (main (F := F))) ⟨m, fun _ => 0, ρ⟩
    fun r => (∀ c : Dev nD, Kept m r.2 c) ∧ r.2.sem = fun _ => 0 :=
  (θ_run defs _ _).mono (fun r h => ⟨kept m hO r h.1, h.2⟩) (run_main_quiescent m ρ hO)

end Frame

/-- The compiled kernel runs and leaves its arguments alone. -/
theorem frame_kernel : Cert.quiescent_Kernel := fun m ρ hp =>
  frame_any m ρ (ok_of_entries m (entry_lt _ _ _ _ _ _ _ _ _ _ _ (hp 0)))

end Cert.BitsClaim

end
-- ==== Proof.DecodeRunA.lean ====
module

public import proofs.«01_k».proof.Proof.Gen.KernelIdeal.Frame.Runs

@[expose] public section

set_option maxRecDepth 16384

noncomputable section

/-! # The decode kernel's body at the first point of a sequence -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body stores at the first point of a sequence (points 0, 16, … 496 of 512), as lists of pieces, last first: in the output block, and in the three
    pieces of the running state. With them the proof that the body, run on whole staging buffers with the inputs at
    their contents, ends with these pieces written and with the inputs as they were. -/
noncomputable def kernelRun0_A (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) :
    Σ' (L21 : List (View.Piece (Elt F) S1x8x128 .bf16)), Σ' (LS0 : List (View.Piece (Elt F) S16x1 .f32)), Σ' (LS1 : List (View.Piece (Elt F) S16x1 .f32)), { LS2 : List (View.Piece (Elt F) S16x128 .f32) //
      ∀ (xi21 : Vec F S1x8x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ (∃ d, owns (c : Thread nD τ) arg25 fullShare d) ∗ (∃ d, owns (c : Thread nD τ) arg26 fullShare d) ∗ (∃ d, owns (c : Thread nD τ) arg27 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2) ∗ tbPt0 c tbM0_0 xt0) -∗ K ⟨⟩))
          ⊢ wp frame (wpE (defs₀ (F := F)) Variants.none c none) E (cc0_diff_decode i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], ?_, ?_, ?_, fun xi21 E K => ?run⟩
  case run =>
    simp only [cc0_diff_decode_eq_skeleton]; unfold cc0_diff_decode_skel
    simp only [k0_part7_eq_skeleton, k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%ds0, %fs0, -, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [HS0]; · iexists _; iexact HS0
    isplitl [HS1]; · iexists _; iexact HS1
    isplitl [HS2]; · iexists _; iexact HS2
    iexact HT0

end Cert.KernelIdeal.Gen

end
-- ==== Proof.DecodeRunB.lean ====
module

public import proofs.«01_k».proof.Proof.DecodeRunA

@[expose] public section

set_option maxRecDepth 16384

noncomputable section

/-! # The decode kernel's body at a middle point of a sequence -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body stores at a middle point of a sequence, as lists of pieces, last first: in the output block, and in the three
    pieces of the running state. With them the proof that the body, run on whole staging buffers with the inputs at
    their contents, ends with these pieces written and with the inputs as they were. -/
noncomputable def kernelRun0_B (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) :
    Σ' (L21 : List (View.Piece (Elt F) S1x8x128 .bf16)), Σ' (LS0 : List (View.Piece (Elt F) S16x1 .f32)), Σ' (LS1 : List (View.Piece (Elt F) S16x1 .f32)), { LS2 : List (View.Piece (Elt F) S16x128 .f32) //
      ∀ (xi21 : Vec F S1x8x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ owns (c : Thread nD τ) arg25 fullShare xs0 ∗ owns (c : Thread nD τ) arg26 fullShare xs1 ∗ owns (c : Thread nD τ) arg27 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare xi21 ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2) ∗ tbPt0 c tbM0_0 xt0) -∗ K ⟨⟩))
          ⊢ wp frame (wpE (defs₀ (F := F)) Variants.none c none) E (cc0_diff_decode i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], ?_, ?_, ?_, fun xi21 E K => ?run⟩
  case run =>
    simp only [cc0_diff_decode_eq_skeleton]; unfold cc0_diff_decode_skel
    simp only [k0_part7_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hfs0; obtain rfl := harg26.eq_unread hfs1; obtain rfl := harg27.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [HS0]; · iexists _; iexact HS0
    isplitl [HS1]; · iexists _; iexact HS1
    isplitl [HS2]; · iexists _; iexact HS2
    iexact HT0

end Cert.KernelIdeal.Gen

end
-- ==== Proof.DecodeRunC.lean ====
module

public import proofs.«01_k».proof.Proof.DecodeRunA

@[expose] public section

set_option maxRecDepth 16384

noncomputable section

/-! # The decode kernel's body at the last point of a sequence -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body stores at the last point of a sequence (points 15, 31, … 511 of 512), as lists of pieces, last first: in the output block, and in the three
    pieces of the running state. With them the proof that the body, run on whole staging buffers with the inputs at
    their contents, ends with these pieces written and with the inputs as they were. -/
noncomputable def kernelRun0_C (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) :
    Σ' (L21 : List (View.Piece (Elt F) S1x8x128 .bf16)), Σ' (LS0 : List (View.Piece (Elt F) S16x1 .f32)), Σ' (LS1 : List (View.Piece (Elt F) S16x1 .f32)), { LS2 : List (View.Piece (Elt F) S16x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ (∃ d, owns (c : Thread nD τ) arg24 fullShare d) ∗ owns (c : Thread nD τ) arg25 fullShare xs0 ∗ owns (c : Thread nD τ) arg26 fullShare xs1 ∗ owns (c : Thread nD τ) arg27 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ (∃ f, arg24.view.loc (c : Thread nD τ) ↦[arg24.view.set]{fullShare} arg24.view.writes (Elt F) f L21) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2) ∗ tbPt0 c tbM0_0 xt0) -∗ K ⟨⟩))
          ⊢ wp frame (wpE (defs₀ (F := F)) Variants.none c none) E (cc0_diff_decode i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_diff_decode_eq_skeleton]; unfold cc0_diff_decode_skel
    simp only [k0_part7_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg25.eq_unread hfs0; obtain rfl := harg26.eq_unread hfs1; obtain rfl := harg27.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]; · iexists _; iexact H21
    isplitl [HS0]; · iexists _; iexact HS0
    isplitl [HS1]; · iexists _; iexact HS1
    isplitl [HS2]; · iexists _; iexact HS2
    iexact HT0

end Cert.KernelIdeal.Gen

end
-- ==== Proof.DecodeOuts.lean ====
module

public import proofs.«01_k».proof.Proof.DecodeRunB
public import proofs.«01_k».proof.Proof.DecodeRunC
public import Idealize.ShloMosaic.Lib.Claim

@[expose] public section

set_option maxRecDepth 16384
set_option maxHeartbeats 4000000

noncomputable section

/-! # What a point leaves in the output block and in the running state, case by case -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A stores nothing into the output block: nothing is written back there, and the next point does not read it. -/
def out0_A_21 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) : Vec F S1x8x128 .bf16 :=
  VO0_21.read (Elt F) (VO0_21.writes (Elt F) VO0_21.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).1)

/-- Case A's pieces of the scratch array `arg25` cover it. -/
theorem scover0_A_0 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (y : S16x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.1 S16x1.size (by sl_kernel_rfl) y

/-- What case A leaves in the scratch array `arg25`. -/
def sout0_A_0 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) : Vec F S16x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.1)

/-- Case A's pieces of the scratch array `arg26` cover it. -/
theorem scover0_A_1 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (y : S16x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.1 S16x1.size (by sl_kernel_rfl) y

/-- What case A leaves in the scratch array `arg26`. -/
def sout0_A_1 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) : Vec F S16x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.1)

/-- Case A's pieces of the scratch array `arg27` cover it. -/
theorem scover0_A_2 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (y : S16x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.2.1 S16x128.size (by sl_kernel_rfl) y

/-- What case A leaves in the scratch array `arg27`. -/
def sout0_A_2 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) : Vec F S16x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0).2.2.2.1)

/-- Case B stores nothing into the output block: nothing is written back there, and the next point does not read it. -/
def out0_B_21 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S1x8x128 .bf16 :=
  VO0_21.read (Elt F) (VO0_21.writes (Elt F) VO0_21.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1)

/-- Case B's pieces of the scratch array `arg25` cover it. -/
theorem scover0_B_0 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) (y : S16x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1 S16x1.size (by sl_kernel_rfl) y

/-- What case B leaves in the scratch array `arg25`. -/
def sout0_B_0 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S16x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1)

/-- Case B's pieces of the scratch array `arg26` cover it. -/
theorem scover0_B_1 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) (y : S16x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1 S16x1.size (by sl_kernel_rfl) y

/-- What case B leaves in the scratch array `arg26`. -/
def sout0_B_1 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S16x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1)

/-- Case B's pieces of the scratch array `arg27` cover it. -/
theorem scover0_B_2 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) (y : S16x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1 S16x128.size (by sl_kernel_rfl) y

/-- What case B leaves in the scratch array `arg27`. -/
def sout0_B_2 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : ¬cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S16x128 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1)

/-- Case C's pieces of the output block cover it. -/
theorem cover0_C_21 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) (y : S1x8x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1 S1x8x128.size (by sl_kernel_rfl) y

/-- What case C leaves in the output block. -/
def out0_C_21 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S1x8x128 .bf16 :=
  VO0_21.read (Elt F) (VO0_21.writes (Elt F) VO0_21.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).1)

/-- Case C's pieces of the scratch array `arg25` cover it. -/
theorem scover0_C_0 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) (y : S16x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1 S16x1.size (by sl_kernel_rfl) y

/-- What case C leaves in the scratch array `arg25`. -/
def sout0_C_0 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S16x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.1)

/-- Case C's pieces of the scratch array `arg26` cover it. -/
theorem scover0_C_1 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) (y : S16x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1 S16x1.size (by sl_kernel_rfl) y

/-- What case C leaves in the scratch array `arg26`. -/
def sout0_C_1 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S16x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.1)

/-- Case C's pieces of the scratch array `arg27` cover it. -/
theorem scover0_C_2 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) (y : S16x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1 S16x128.size (by sl_kernel_rfl) y

/-- What case C leaves in the scratch array `arg27`. -/
def sout0_C_2 (c : Dev nD) (i : grid0.Coords) (arg3 : Memref sig .tc .vmem S1x8x128 .bf16) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1x1024x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x1024x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x8x128 .bf16) (harg24 : arg24.IsWhole) (arg25 : Memref sig .tc .vmem S16x1 .f32) (harg25 : arg25.IsWhole) (arg26 : Memref sig .tc .vmem S16x1 .f32) (harg26 : arg26.IsWhole) (arg27 : Memref sig .tc .vmem S16x128 .f32) (harg27 : arg27.IsWhole) (hc0 : ¬cond0_0 i) (hc1 : cond0_1 i)
    (x0 : Vec F S1x8x128 .bf16) (x1 : Vec F S1x8x128 .f32) (x2 : Vec F S1x8x128 .f32) (x3 : Vec F S4x64 .f32) (x4 : Vec F S1x128 .f32) (x5 : Vec F S1x1024x128 .f32) (x6 : Vec F S1x1024x128 .f32) (x7 : Vec F S1x1024x128 .f32) (x8 : Vec F S1x1024x128 .f32) (x9 : Vec F S1x1024x128 .f32) (x10 : Vec F S1x1024x128 .f32) (x11 : Vec F S1x1024x128 .f32) (x12 : Vec F S1x1024x128 .f32) (x13 : Vec F S1x1024x128 .f32) (x14 : Vec F S1x1024x128 .f32) (x15 : Vec F S1x1024x128 .f32) (x16 : Vec F S1x1024x128 .f32) (x17 : Vec F S1x1024x128 .f32) (x18 : Vec F S1x1024x128 .f32) (x19 : Vec F S1x1024x128 .f32) (x20 : Vec F S1x1024x128 .f32) (xt0 : TbBuf0 (F := F) c tbM0_0) (xs0 : Vec F S16x1 .f32) (xs1 : Vec F S16x1 .f32) (xs2 : Vec F S16x128 .f32) : Vec F S16x128 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xt0 xs0 xs1 xs2).2.2.2.1)

end Cert.KernelIdeal.Gen

end
-- ==== Proof.DecodePoints.lean ====
module

public import proofs.«01_k».proof.Proof.DecodeOuts

@[expose] public section

set_option maxRecDepth 16384
set_option maxHeartbeats 4000000

noncomputable section

/-! # The output block and the running state after each point, and the proof data of the pipeline -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the first point of a sequence leaves: the output block and the three pieces of the running state. -/
def pointA (hO : Ok m) (c : Dev nD) (t : Fin (cfgM m hO).N) (h0 : t.val % 16 = 0) (h1 : ¬t.val % 16 = 15) :
    Vec F S1x8x128 .bf16 × Vec F S16x1 .f32 × Vec F S16x1 .f32 × Vec F S16x128 .f32 :=
  (out0_A_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0))

/-- What a middle point leaves, over what the point before left. -/
def pointB (hO : Ok m) (c : Dev nD) (t : Fin (cfgM m hO).N) (h0 : ¬t.val % 16 = 0) (h1 : ¬t.val % 16 = 15) (prev : Vec F S1x8x128 .bf16 × Vec F S16x1 .f32 × Vec F S16x1 .f32 × Vec F S16x128 .f32) :
    Vec F S1x8x128 .bf16 × Vec F S16x1 .f32 × Vec F S16x1 .f32 × Vec F S16x128 .f32 :=
  (out0_B_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2)

/-- What the last point of a sequence leaves, over what the point before left. -/
def pointC (hO : Ok m) (c : Dev nD) (t : Fin (cfgM m hO).N) (h0 : ¬t.val % 16 = 0) (h1 : t.val % 16 = 15) (prev : Vec F S1x8x128 .bf16 × Vec F S16x1 .f32 × Vec F S16x1 .f32 × Vec F S16x128 .f32) :
    Vec F S1x8x128 .bf16 × Vec F S16x1 .f32 × Vec F S16x1 .f32 × Vec F S16x128 .f32 :=
  (out0_C_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) prev.2.1 prev.2.2.1 prev.2.2.2)

/-- What the output block and the running state hold after each point. -/
def outsAt0 (hO : Ok m) (c : Dev nD) : (n : ℕ) → n < (cfgM m hO).N → Vec F S1x8x128 .bf16 × Vec F S16x1 .f32 × Vec F S16x1 .f32 × Vec F S16x128 .f32
  | 0, hn => pointA m hO c ⟨0, hn⟩ (Nat.zero_mod 16) (show ¬ 0 % 16 = 15 by decide)
  | n + 1, hn =>
    if h0 : (n + 1) % 16 = 0 then
      if h1 : (n + 1) % 16 = 15 then
        False.elim (by omega)
      else
        pointA m hO c ⟨n + 1, hn⟩ h0 h1
    else
      if h1 : (n + 1) % 16 = 15 then
        pointC m hO c ⟨n + 1, hn⟩ h0 h1 (outsAt0 hO c n (Nat.lt_of_succ_lt hn))
      else
        pointB m hO c ⟨n + 1, hn⟩ h0 h1 (outsAt0 hO c n (Nat.lt_of_succ_lt hn))

theorem outsAt0_A (hO : Ok m) (c : Dev nD) (t : Fin (cfgM m hO).N) (h0 : t.val % 16 = 0) (h1 : ¬t.val % 16 = 15) :
    outsAt0 m hO c t.val t.isLt = pointA m hO c t h0 h1 := by
  obtain ⟨n, hn⟩ := t
  cases n with
  | zero => rw [outsAt0]
  | succ n => rw [outsAt0]; exact (dif_pos h0).trans (dif_neg h1)

theorem outsAt0_B (hO : Ok m) (c : Dev nD) (t : Fin (cfgM m hO).N) (h0 : ¬t.val % 16 = 0) (h1 : ¬t.val % 16 = 15) :
    outsAt0 m hO c t.val t.isLt = pointB m hO c t h0 h1 (outsAt0 m hO c (t.val - 1) (Nat.lt_of_le_of_lt (Nat.sub_le _ _) t.isLt)) := by
  obtain ⟨n, hn⟩ := t
  cases n with
  | zero => exact absurd (Nat.zero_mod 16) h0
  | succ n => rw [outsAt0]; exact (dif_neg h0).trans (dif_neg h1)

theorem outsAt0_C (hO : Ok m) (c : Dev nD) (t : Fin (cfgM m hO).N) (h0 : ¬t.val % 16 = 0) (h1 : t.val % 16 = 15) :
    outsAt0 m hO c t.val t.isLt = pointC m hO c t h0 h1 (outsAt0 m hO c (t.val - 1) (Nat.lt_of_le_of_lt (Nat.sub_le _ _) t.isLt)) := by
  obtain ⟨n, hn⟩ := t
  cases n with
  | zero => exact absurd (Nat.zero_mod 16) h0
  | succ n => rw [outsAt0]; exact (dif_neg h0).trans (dif_pos h1)

/-- The invariant before point `n`: before the first point the scratch arrays hold anything, afterwards what the point
    before left in them; the generator register is at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the pipeline on core `c`: its arrays as the region finds them, what each window's block holds after
    the body, and the invariant. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => (outsAt0 m hO c t.val t.isLt).1
    | ⟨_ + 22, h⟩ => absurd h (Nat.not_lt.2 (Nat.le_add_left _ _))
  Φ t := PhiS m hO c t.val (Nat.le_of_lt_succ t.isLt)
  q w := Pipeline.shareOf spec0 w
  owed _ := 0

/-- The arrays of the proof data are those the region finds. -/
theorem A_eq (hO : Ok m) (c : Dev nD) (w : Fin (cfgM m hO).W) : (dats m hO 0 c).A w = V m c (Pipeline.arrRef spec0 w) := by
  dsimp only [dats]

/-- The invariant where a point starts. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = (outsAt0 m hO c t.val t.isLt).1 := by dsimp only [dats]; try rfl

/-- Each input's staging buffer holds its block at every point, whether fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d

end Cert.KernelIdeal.Gen

end
-- ==== Proof.DecodeBody.lean ====
module

public import proofs.«01_k».proof.Proof.DecodePoints

@[expose] public section

set_option maxRecDepth 16384
set_option maxHeartbeats 4000000

noncomputable section

/-! # The body at every point, and the run of the whole program -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, window by window. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t)

set_option maxHeartbeats 28800000 in
/-- The body at any point: the inputs hold their blocks, the place of the point in its sequence says which of the three
    runs applies, and the running state passes from the point before to the next. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 512 := lt_of_lt_of_eq t.isLt (show (cfgM m hO).N = 512 from N_0)
  by_cases h0 : t.val % 16 = 0
  · by_cases h1 : t.val % 16 = 15
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [Dat.leavesExact_idle (dats m hO 0 c) 21 t (idleAt0_21_A m hO t ((hcond0_0 t).mpr h0) (fun h => h1 ((hcond0_1 t).mp h))) (noFlush0_21_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold pointA sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, H20, H21, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexists _; iexact H21
      · rw [PhiS_castSucc m hO c t, PhiS_pos m hO c _ _ hz, PhiT0_eq]
        rw [outsAt0_A m hO c t h0 h1]
        unfold pointA sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [HS0]; · iexists _; iexact HS0
        isplitl [HS1]; · iexists _; iexact HS1
        isplitl [HS2]; · iexists _; iexact HS2
        isplitl [HT0]; · iexact HT0
        iintro ⟨H0, H1, H2, H3, H4, H5, H6, H7, H8, H9, H10, H11, H12, H13, H14, H15, H16, H17, H18, H19, H20, H21, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexists _; iexact H21
  · by_cases h1 : t.val % 16 = 15
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [show (dats m hO 0 c).leavesExact 21 t = owns (c : Thread nD τ) (ms0_21 m hO t) fullShare ((dats m hO 0 c).after 21 t) from by
      unfold Dat.leavesExact; rw [liveAt0_21_C m hO t (fun h => h0 ((hcond0_0 t).mp h)) ((hcond0_1 t).mpr h1)]; try rfl, after0_21]
      by_cases hz : t.val = 0
      · exfalso; have hN : t.val < 512 := lt_of_lt_of_eq t.isLt (show (cfgM m hO).N = 512 from N_0); omega
      · rw [PhiS_castSucc m hO c t, PhiS_pos m hO c _ _ hz, PhiT0_eq]
        rw [outsAt0_C m hO c t h0 h1]
        unfold pointC out0_C_21 sout0_C_0 sout0_C_1 sout0_C_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, H20, ⟨%e21, H21⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        unfold owns; iexists _; isplitr
        swap; · iexact H21
        ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [Dat.leavesExact_idle (dats m hO 0 c) 21 t (idleAt0_21_B m hO t (fun h => h0 ((hcond0_0 t).mp h)) (fun h => h1 ((hcond0_1 t).mp h))) (noFlush0_21_B m hO t (fun h => h0 ((hcond0_0 t).mp h)) (fun h => h1 ((hcond0_1 t).mp h)))]
      by_cases hz : t.val = 0
      · exfalso; have hN : t.val < 512 := lt_of_lt_of_eq t.isLt (show (cfgM m hO).N = 512 from N_0); omega
      · rw [PhiS_castSucc m hO c t, PhiS_pos m hO c _ _ hz, PhiT0_eq]
        rw [outsAt0_B m hO c t h0 h1]
        unfold pointB sout0_B_0 sout0_B_1 sout0_B_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (tbl m 0) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, H20, H21, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexists _; iexact H21

/-- The body of the table at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body meets its obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The launch gives the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first, the invariant gives the scratch arrays back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 512 := N_0; omega)

/-! ## The run and the frame -/

set_option backward.isDefEq.respectTransparency.types false in
/-- The whole program: every run ends with the pipeline's arrays at their final contents, the other buffers as the region
    found them, and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The same, without the semaphores. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

end Cert.KernelIdeal.Gen

end
-- ==== Proof.Online.lean ====
/-
  The running softmax on extended reals, apart from any program.

  Keys come in blocks. Before block `n` the state has seen one key of score `s0` and the blocks before `n`; it holds
  the greatest score so far (`top`) and, for a weight per key, the sum of `exp (score - top) * weight` (`wsum`). A block
  rescales the sum by `exp (old top - new top)` and adds its own terms. Nothing is assumed finite: the scale is always a
  nonnegative real, and it composes with the terms' exponentials at every extended real.
-/
module

public import Idealize.ShloMosaic.PureOps.Ideal.Laws

@[expose] public section

noncomputable section

namespace Cert.Online

open Idealize.ShloMosaic

/-! ## The exponential of a difference -/

/-- The exponential of a difference `m - M` with `m ≤ M` is a nonnegative real. -/
theorem exp_sub_real {m M : EReal} (h : m ≤ M) : ∃ r : ℝ, 0 ≤ r ∧ Ideal.exp (m - M) = (r : EReal) := by
  induction m with
  | bot => exact ⟨0, le_refl _, by rw [EReal.bot_sub]; rfl⟩
  | top =>
    obtain rfl : M = ⊤ := top_le_iff.mp h
    exact ⟨0, le_refl _, by rw [EReal.sub_top]; rfl⟩
  | coe a =>
    induction M with
    | bot => exact absurd h (by simp)
    | top => exact ⟨0, le_refl _, by rw [EReal.sub_top]; rfl⟩
    | coe b => exact ⟨Real.exp (a - b), (Real.exp_pos _).le, by rw [← EReal.coe_sub]; rfl⟩

/-- Rescaling the exponential of `s - m` from the maximum `m` to a greater one `M`. -/
theorem exp_mul_exp {s m M : EReal} (hs : s ≤ m) (hm : m ≤ M) :
    Ideal.exp (m - M) * Ideal.exp (s - m) = Ideal.exp (s - M) := by
  induction s with
  | bot => rw [EReal.bot_sub, EReal.bot_sub]; exact mul_zero _
  | top =>
    obtain rfl : m = ⊤ := top_le_iff.mp hs
    obtain rfl : M = ⊤ := top_le_iff.mp hm
    rw [EReal.sub_top]; exact mul_zero _
  | coe x =>
    induction m with
    | bot => exact absurd hs (by simp)
    | top =>
      obtain rfl : M = ⊤ := top_le_iff.mp hm
      rw [EReal.sub_top, EReal.sub_top]; exact mul_zero _
    | coe a =>
      induction M with
      | bot => exact absurd hm (by simp)
      | top => rw [EReal.sub_top, EReal.sub_top]; exact zero_mul _
      | coe b =>
        rw [← EReal.coe_sub, ← EReal.coe_sub, ← EReal.coe_sub]
        show ((Real.exp (a - b) : ℝ) : EReal) * ((Real.exp (x - a) : ℝ) : EReal) = ((Real.exp (x - b) : ℝ) : EReal)
        rw [← EReal.coe_mul, ← Real.exp_add]
        congr 2; ring

/-- A nonnegative real factor distributes over a finite sum of extended reals. -/
theorem coe_mul_sum {ι : Type*} (r : ℝ) (hr : 0 ≤ r) (t : Finset ι) (f : ι → EReal) :
    (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

theorem coe_mul_add (r : ℝ) (hr : 0 ≤ r) (x y : EReal) : (r : EReal) * (x + y) = r * x + r * y :=
  EReal.left_distrib_of_nonneg_of_ne_top (by exact_mod_cast hr) (EReal.coe_ne_top r) x y

/-! ## The state -/

variable {κ : Type} [Fintype κ]

/-- The greatest score among the first key and the blocks before `n`. -/
def top (s0 : EReal) (s : ℕ → κ → EReal) : ℕ → EReal
  | 0 => s0
  | n + 1 => max (top s0 s n) (Finset.univ.sup (s n))

/-- The weighted sum of the exponentials over the first key and the blocks before `n`, each score taken off `M`. -/
def wsum (s0 v0 : EReal) (s v : ℕ → κ → EReal) (n : ℕ) (M : EReal) : EReal :=
  Ideal.exp (s0 - M) * v0 + ∑ j ∈ Finset.range n, ∑ k, Ideal.exp (s j k - M) * v j k

variable (s0 v0 : EReal) (s v : ℕ → κ → EReal)

theorem s0_le_top (n : ℕ) : s0 ≤ top s0 s n := by
  induction n with
  | zero => exact le_refl _
  | succ n ih => exact ih.trans (le_max_left _ _)

theorem top_le_succ (n : ℕ) : top s0 s n ≤ top s0 s (n + 1) := le_max_left _ _

theorem le_top {n j : ℕ} (h : j < n) (k : κ) : s j k ≤ top s0 s n := by
  induction n with
  | zero => exact absurd h (Nat.not_lt_zero _)
  | succ n ih =>
    rcases Nat.lt_succ_iff_lt_or_eq.mp h with h | rfl
    · exact (ih h).trans (le_max_left _ _)
    · exact (Finset.le_sup (f := s j) (Finset.mem_univ k)).trans (le_max_right _ _)

/-- The greatest score is below a bound exactly when every score is. -/
theorem top_le_iff_forall (n : ℕ) (B : EReal) : top s0 s n ≤ B ↔ s0 ≤ B ∧ ∀ j < n, ∀ k, s j k ≤ B := by
  refine ⟨fun h => ⟨(s0_le_top s0 s n).trans h, fun j hj k => (le_top s0 s hj k).trans h⟩, fun h => ?_⟩
  induction n with
  | zero => exact h.1
  | succ n ih =>
    exact max_le (ih ⟨h.1, fun j hj k => h.2 j (Nat.lt_succ_of_lt hj) k⟩)
      (Finset.sup_le fun k _ => h.2 n (Nat.lt_succ_self n) k)

/-- A sum taken off the greatest score so far, rescaled to a greater one. -/
theorem rescale (n : ℕ) (M : EReal) (hM : top s0 s n ≤ M) :
    Ideal.exp (top s0 s n - M) * wsum s0 v0 s v n (top s0 s n) = wsum s0 v0 s v n M := by
  obtain ⟨r, hr, e⟩ := exp_sub_real hM
  unfold wsum
  rw [e, coe_mul_add r hr, coe_mul_sum r hr, ← e, ← mul_assoc, exp_mul_exp (s0_le_top s0 s n) hM]
  refine congrArg (_ + ·) (Finset.sum_congr rfl fun j hj => ?_)
  rw [e, coe_mul_sum r hr, ← e]
  refine Finset.sum_congr rfl fun k _ => ?_
  rw [← mul_assoc, exp_mul_exp (le_top s0 s (Finset.mem_range.mp hj) k) hM]

/-- A block's step: the state, rescaled to the new greatest score, plus the block's own terms. -/
theorem step (n : ℕ) (a : EReal)
    (ha : ∀ M, top s0 s n ≤ M → Ideal.exp (top s0 s n - M) * a = wsum s0 v0 s v n M) :
    Ideal.exp (top s0 s n - top s0 s (n + 1)) * a + ∑ k, Ideal.exp (s n k - top s0 s (n + 1)) * v n k
      = wsum s0 v0 s v (n + 1) (top s0 s (n + 1)) := by
  rw [ha _ (top_le_succ s0 s n)]
  unfold wsum
  rw [Finset.sum_range_succ, add_assoc]

/-- The state before the first block: the first key's own weight. -/
theorem start (M : EReal) : Ideal.exp (s0 - M) * v0 = wsum s0 v0 s v 0 M := by
  unfold wsum
  rw [Finset.range_zero, Finset.sum_empty, add_zero]

end Cert.Online

end
-- ==== Proof.DecodeStep.lean ====
module

public import Idealize.ShloMosaic.Lib.Pointwise
public import proofs.«01_k».proof.Proof.Online
public import proofs.«01_k».proof.Proof.Gen.KernelIdeal.Skeleton

@[expose] public section

noncomputable section

/-! # One grid point of the decode kernel: eight pages folded into the running softmax -/

namespace Cert.DecodeStep

open Idealize.ShloMosaic Idealize.ShloMosaic.TcCoe Idealize.ShloMosaic.Tactic
open Cert.KernelIdeal Cert.KernelIdeal.Gen

/-! ## One page's part of each piece of the state -/

/-- The scores of a page. -/
def scores (q : FVec Ideal S16x128 .bf16) (b : FVec Ideal S16x1024 .f32) (k : Vec Ideal S1x1024x128 .f32) : FVec Ideal S16x1024 .f32 :=
  k0_pay14 q b k

/-- The greatest score, raised by a page's. -/
def raised (m : FVec Ideal S16x1 .f32) (s : FVec Ideal S16x1024 .f32) : FVec Ideal S16x1 .f32 :=
  maximumf m (shapeCast S16x1 (multiReduction .maximumf [1] S16 s 0xFF800000#32 reduces_S16x1024_S16 (.inl rfl) rfl) shapeCasts_S16_S16x1)

/-- The exponentials of a page's scores. -/
def weights (s : FVec Ideal S16x1024 .f32) (M : FVec Ideal S16x1 .f32) : FVec Ideal S16x1024 .f32 := k0_pay26 s M

/-- The sum of the exponentials, with a page's added. -/
def summed (l : FVec Ideal S16x1 .f32) (p : FVec Ideal S16x1024 .f32) : FVec Ideal S16x1 .f32 :=
  addf l (shapeCast S16x1 (multiReduction .add [1] S16 p 0x00000000#32 reduces_S16x1024_S16 (.inl rfl) rfl) shapeCasts_S16_S16x1)

/-- The weighted sum of the values, with a page's added. -/
def gathered (a : FVec Ideal S16x128 .f32) (p : FVec Ideal S16x1024 .f32) (v : Vec Ideal S1x1024x128 .f32) : FVec Ideal S16x128 .f32 :=
  have p' : FVec Ideal S16x1024 .bf16 := truncf .bf16 p bitsLt_bf16_f32
  have w : FVec Ideal S1024x128 .f32 := shapeCast S1024x128 v shapeCasts_S1x1024x128_S1024x128
  have v' : FVec Ideal S1024x128 .bf16 := truncf .bf16 w bitsLt_bf16_f32
  have z : FVec Ideal S16x128 .f32 := constant S16x128 .f32 0x00000000#32
  addf a (matmul dot_S16x1024_S1024x128_S16x128_1_0_0_1_n_n none p' v' z)

theorem scores_apply (q : FVec Ideal S16x128 .bf16) (b : FVec Ideal S16x1024 .f32) (k : Vec Ideal S1x1024x128 .f32) (r : Fin 16) (u : Fin 1024) :
    scores q b k (ix2 r u) = (∑ d : Fin 128, q (ix2 r d) * k (ix3 0 u d)) + b (ix2 r u) := by
  pointwise [scores, k0_pay14]

theorem raised_apply (m : FVec Ideal S16x1 .f32) (s : FVec Ideal S16x1024 .f32) (r : Fin 16) :
    raised m s (ix2 r 0) = max (m (ix2 r 0)) (Finset.univ.sup fun u : Fin 1024 => s (ix2 r u)) := by
  pointwise [raised]
  have e : Ideal.ofBits .f32 4286578688#32 = ⊥ := by simp [Ideal.ofBits, Ideal.ieee]
  rw [e]
  rfl

theorem weights_apply (s : FVec Ideal S16x1024 .f32) (M : FVec Ideal S16x1 .f32) (r : Fin 16) (u : Fin 1024) :
    weights s M (ix2 r u) = Ideal.exp (s (ix2 r u) - M (ix2 r 0)) := by
  pointwise [weights, k0_pay26]

theorem summed_apply (l : FVec Ideal S16x1 .f32) (p : FVec Ideal S16x1024 .f32) (r : Fin 16) :
    summed l p (ix2 r 0) = l (ix2 r 0) + ∑ u : Fin 1024, p (ix2 r u) := by
  pointwise [summed]

theorem gathered_apply (a : FVec Ideal S16x128 .f32) (p : FVec Ideal S16x1024 .f32) (v : Vec Ideal S1x1024x128 .f32) (r : Fin 16) (d : Fin 128) :
    gathered a p v (ix2 r d) = a (ix2 r d) + ∑ u : Fin 1024, p (ix2 r u) * v (ix3 0 u d) := by
  pointwise [gathered]

/-! ## The queries and the mask at an index -/

theorem select_ofBool {α : Type} (p : Prop) [Decidable p] (c : BitVec 1) (h : c = BitVec.ofBool (decide p)) (a b : α) :
    Scalar.select c a b = if p then a else b := by
  subst h
  by_cases hp : p <;> simp [Scalar.select, hp]

theorem lane_low : ∀ d : Fin 128, IntOp.cmpi CmpIPredicate.slt (BitVec.ofNat 32 d.val) 64#32 = BitVec.ofBool (decide (d.val < 64)) := by
  decide +kernel

theorem lane_high : ∀ d : Fin 128, IntOp.cmpi CmpIPredicate.sge (BitVec.ofNat 32 d.val) 64#32 = BitVec.ofBool (decide (64 ≤ d.val)) := by
  decide +kernel

/-- The head of a row: rows come in two runs of the eight heads. -/
abbrev head (r : Fin 16) : Fin 8 := ⟨r.val % 8, Nat.mod_lt _ (by decide)⟩

/-- Whether a row keeps a lane: the first eight rows keep the first half, the last eight the second. -/
abbrev Keeps (r : Fin 16) (d : Fin 128) : Prop := r.val < 8 ↔ d.val < 64

/-- A row is one of the first eight or one of the last eight. -/
theorem row_cases {P : Fin 16 → Prop} (low : ∀ h : Fin 8, P ⟨h.val, by omega⟩) (high : ∀ h : Fin 8, P ⟨8 + h.val, by omega⟩) (r : Fin 16) : P r := by
  by_cases h : r.val < 8
  · exact low ⟨r.val, h⟩
  · have := high ⟨r.val - 8, by omega⟩
    convert this using 1
    exact Fin.ext (by show r.val = 8 + (r.val - 8); omega)

theorem head_low (h : Fin 8) : head ⟨h.val, by omega⟩ = h := Fin.ext (by show h.val % 8 = h.val; omega)
theorem head_high (h : Fin 8) : head ⟨8 + h.val, by omega⟩ = h := Fin.ext (by show (8 + h.val) % 8 = h.val; omega)

theorem keeps_low (h : Fin 8) (d : Fin 128) : Keeps ⟨h.val, by omega⟩ d ↔ d.val < 64 := by
  show (h.val < 8 ↔ d.val < 64) ↔ d.val < 64
  have := h.isLt
  tauto

theorem keeps_high (h : Fin 8) (d : Fin 128) : Keeps ⟨8 + h.val, by omega⟩ d ↔ 64 ≤ d.val := by
  show (8 + h.val < 8 ↔ d.val < 64) ↔ 64 ≤ d.val
  have : ¬ 8 + h.val < 8 := by omega
  rw [iff_false_left this]
  omega

theorem query_apply (x : Vec Ideal S1x8x128 .bf16) (r : Fin 16) (d : Fin 128) :
    k0_pay6 x (ix2 r d) = if Keeps r d then x (ix3 0 (head r) d) else 0 := by
  induction r using row_cases with
  | low h =>
    rw [head_low, if_congr (keeps_low h d) rfl rfl, ← select_ofBool _ _ (lane_low d)]
    pointwise [k0_pay6, k0_pay5]
  | high h =>
    rw [head_high, if_congr (keeps_high h d) rfl rfl, ← select_ofBool _ _ (lane_high d)]
    pointwise [k0_pay6, k0_pay5]

/-- The mask the kernel adds to a page's scores. -/
def mask : FVec Ideal S16x1024 .f32 := k0_pay9 (F := Ideal) k0_pay7 8#32 k0_pay8

/-- The remainder by eight, as the kernel computes it. -/
def mod8 (n : BitVec 32) : BitVec 32 :=
  let e := Scalar.select (Scalar.cmpi CmpIPredicate.eq 8#32 0#32) 1#32 8#32
  let y := IntOp.remsi ArithUnit.vector n e
  Scalar.select (IntOp.andi (IntOp.xori (IntOp.cmpi CmpIPredicate.slt y 0#32) (Scalar.cmpi CmpIPredicate.slt 8#32 0#32))
    (IntOp.cmpi CmpIPredicate.ne y 0#32)) (IntOp.addi y 8#32) y

theorem mod8_eq : ∀ u : Fin 1024, mod8 (BitVec.ofNat 32 u.val) = BitVec.ofNat 32 (u.val % 8) := by
  decide +kernel

theorem same_head (a b : ℕ) : IntOp.cmpi CmpIPredicate.eq (BitVec.ofNat 32 (a % 8)) (BitVec.ofNat 32 (b % 8))
    = BitVec.ofBool (decide (a % 8 = b % 8)) := by
  have ha : a % 8 < 8 := Nat.mod_lt _ (by decide)
  have hb : b % 8 < 8 := Nat.mod_lt _ (by decide)
  generalize a % 8 = x at *
  generalize b % 8 = y at *
  interval_cases x <;> interval_cases y <;> decide

theorem mask_apply (r : Fin 16) (u : Fin 1024) : mask (ix2 r u) = if r.val % 8 = u.val % 8 then 0 else ⊥ := by
  have e : mask (ix2 r u) = Scalar.select (IntOp.cmpi CmpIPredicate.eq (mod8 (BitVec.ofNat 32 r.val)) (mod8 (BitVec.ofNat 32 u.val)))
      (0 : EReal) (Named.named (F := Ideal) κ "mask" 0xF149F2CA#32 : Ideal .f32) := by
    pointwise [mask, k0_pay9, k0_pay7, k0_pay8]
    rfl
  have en : (Named.named (F := Ideal) κ "mask" 0xF149F2CA#32 : Ideal .f32) = (⊥ : EReal) := IdealRules.named_const.ideal_named_scalar _ _ _ _ rfl
  rw [e, en, mod8_eq u, mod8_eq ⟨r.val, by omega⟩, same_head]
  exact select_ofBool _ _ rfl _ _

/-! ## The first point of a sequence: the new token's own key -/

/-- The lane numbers. -/
abbrev lanes : IVec S1x128 32 := iota .tc S1x128 32 [1] iota_S1x128_d1_w32

theorem first_top_apply (x : Vec Ideal S1x8x128 .bf16) (k : Vec Ideal S1x8x128 .f32) (r : Fin 16) :
    k0_pay2 (F := Ideal) (k0_pay5 x) lanes k (ix2 r 0) = ∑ d : Fin 128, (if Keeps r d then x (ix3 0 (head r) d) else 0) * k (ix3 0 (head r) d) := by
  induction r using row_cases with
  | low h =>
    simp only [head_low, keeps_low, ite_mul, zero_mul]
    simp only [← select_ofBool _ _ (lane_low _)]
    pointwise [k0_pay2, k0_pay5]
  | high h =>
    simp only [head_high, keeps_high, ite_mul, zero_mul]
    simp only [← select_ofBool _ _ (lane_high _)]
    pointwise [k0_pay2, k0_pay5]

theorem first_sum_apply (r : Fin 16) : k0_pay3 (F := Ideal) (ix2 r 0) = 1 := by
  pointwise [k0_pay3]

theorem first_acc_apply (v : Vec Ideal S1x8x128 .f32) (r : Fin 16) (d : Fin 128) :
    k0_pay4 (F := Ideal) v (ix2 r d) = v (ix3 0 (head r) d) := by
  induction r using row_cases with
  | low h =>
    rw [head_low]
    pointwise [k0_pay4]
  | high h =>
    rw [head_high]
    pointwise [k0_pay4]

/-! ## Eight pages -/

section Pages

variable (q : FVec Ideal S16x128 .bf16) (k v : Fin 8 → Vec Ideal S1x1024x128 .f32)
  (m l : FVec Ideal S16x1 .f32) (a : FVec Ideal S16x128 .f32)

/-- The scores of the point's page `p`. -/
abbrev pageScores (p : Fin 8) : FVec Ideal S16x1024 .f32 := scores q mask (k p)

/-- The greatest score after the eight pages. -/
def newTop : FVec Ideal S16x1 .f32 :=
  raised (raised (raised (raised (raised (raised (raised (raised m (pageScores q k 0)) (pageScores q k 1)) (pageScores q k 2))
    (pageScores q k 3)) (pageScores q k 4)) (pageScores q k 5)) (pageScores q k 6)) (pageScores q k 7)

/-- The exponentials of page `p`. -/
abbrev pageWeights (p : Fin 8) : FVec Ideal S16x1024 .f32 := weights (pageScores q k p) (newTop q k m)

/-- The factor from the old greatest score to the new. -/
def factor : FVec Ideal S16x1 .f32 := exp (subf m (newTop q k m))

/-- The sum of the exponentials after the eight pages. -/
def newSum : FVec Ideal S16x1 .f32 :=
  summed (summed (summed (summed (summed (summed (summed (summed (mulf (factor q k m) l) (pageWeights q k m 0)) (pageWeights q k m 1))
    (pageWeights q k m 2)) (pageWeights q k m 3)) (pageWeights q k m 4)) (pageWeights q k m 5)) (pageWeights q k m 6)) (pageWeights q k m 7)

/-- The rescaled sum of the values. -/
def scaled : FVec Ideal S16x128 .f32 := mulf (broadcastTo S16x128 (factor q k m) broadcasts_S16x1_S16x128) a

/-- The weighted sum of the values after the eight pages. -/
def newAcc : FVec Ideal S16x128 .f32 :=
  gathered (gathered (gathered (gathered (gathered (gathered (gathered (gathered (scaled q k m a) (pageWeights q k m 0) (v 0))
    (pageWeights q k m 1) (v 1)) (pageWeights q k m 2) (v 2)) (pageWeights q k m 3) (v 3)) (pageWeights q k m 4) (v 4))
    (pageWeights q k m 5) (v 5)) (pageWeights q k m 6) (v 6)) (pageWeights q k m 7) (v 7)

/-- The score of key `c`, a page and a column of it, in row `r`. -/
def score (r : Fin 16) (c : Fin 8 × Fin 1024) : EReal :=
  (∑ d : Fin 128, q (ix2 r d) * k c.1 (ix3 0 c.2 d)) + if r.val % 8 = c.2.val % 8 then 0 else ⊥

theorem pageScores_apply (p : Fin 8) (r : Fin 16) (u : Fin 1024) : pageScores q k p (ix2 r u) = score q k r (p, u) := by
  rw [pageScores, scores_apply, mask_apply, score]

theorem all_eight (P : Fin 8 → Prop) : (∀ p, P p) ↔ P 0 ∧ P 1 ∧ P 2 ∧ P 3 ∧ P 4 ∧ P 5 ∧ P 6 ∧ P 7 :=
  ⟨fun h => ⟨h 0, h 1, h 2, h 3, h 4, h 5, h 6, h 7⟩, fun ⟨h0, h1, h2, h3, h4, h5, h6, h7⟩ p => by
    match p with
    | 0 => exact h0
    | 1 => exact h1
    | 2 => exact h2
    | 3 => exact h3
    | 4 => exact h4
    | 5 => exact h5
    | 6 => exact h6
    | 7 => exact h7⟩

theorem newTop_apply (r : Fin 16) : newTop q k m (ix2 r 0) = max (m (ix2 r 0)) (Finset.univ.sup (score q k r)) := by
  unfold newTop
  simp only [raised_apply, pageScores_apply]
  refine eq_of_forall_ge_iff fun B => ?_
  simp only [max_le_iff, Finset.sup_le_iff, Finset.mem_univ, true_implies, Prod.forall]
  rw [all_eight]
  simp only [and_assoc]

theorem pageWeights_apply (p : Fin 8) (r : Fin 16) (u : Fin 1024) :
    pageWeights q k m p (ix2 r u) = Ideal.exp (score q k r (p, u) - newTop q k m (ix2 r 0)) := by
  rw [pageWeights, weights_apply, pageScores_apply]

theorem factor_apply (r : Fin 16) : factor q k m (ix2 r 0) = Ideal.exp (m (ix2 r 0) - newTop q k m (ix2 r 0)) := by
  pointwise [factor]

theorem newSum_apply (r : Fin 16) : newSum q k m l (ix2 r 0)
    = Ideal.exp (m (ix2 r 0) - newTop q k m (ix2 r 0)) * l (ix2 r 0)
      + ∑ c, Ideal.exp (score q k r c - newTop q k m (ix2 r 0)) := by
  have e : mulf (factor q k m) l (ix2 r 0) = factor q k m (ix2 r 0) * l (ix2 r 0) := rfl
  unfold newSum
  simp only [summed_apply, pageWeights_apply, e, factor_apply, Fintype.sum_prod_type, Fin.sum_univ_eight, add_assoc]

theorem newAcc_apply (r : Fin 16) (d : Fin 128) : newAcc q k v m a (ix2 r d)
    = Ideal.exp (m (ix2 r 0) - newTop q k m (ix2 r 0)) * a (ix2 r d)
      + ∑ c : Fin 8 × Fin 1024, Ideal.exp (score q k r c - newTop q k m (ix2 r 0)) * v c.1 (ix3 0 c.2 d) := by
  have e : scaled q k m a (ix2 r d) = factor q k m (ix2 r 0) * a (ix2 r d) := by pointwise [scaled]
  unfold newAcc
  simp only [gathered_apply, pageWeights_apply, e, factor_apply, Fintype.sum_prod_type, Fin.sum_univ_eight, add_assoc]

end Pages

/-! ## The last point of a sequence: the normed difference of the two softmaxes -/

/-- The weight of the second softmax, from its four rows of parameters. -/
def lambdaOf (p : Fin 4 → Fin 64 → EReal) : EReal :=
  Ideal.exp (∑ d, p 0 d * p 1 d) - Ideal.exp (∑ d, p 2 d * p 3 d) + Ideal.ofBits .f32 0x3E4CCCCD#32

/-- A head's output from its two softmaxes' results: their difference, normed. -/
def finish (lam : EReal) (o1 o2 g : Fin 128 → EReal) (d : Fin 128) : EReal :=
  (o1 d - lam * o2 d) * Ideal.rsqrt (Ideal.div (∑ d, (o1 d - lam * o2 d) * (o1 d - lam * o2 d)) (Ideal.ofBits .f32 0x43000000#32)
    + Ideal.ofBits .f32 0x358637BD#32) * g d * Ideal.ofBits .f32 0x3F4CCCCD#32

theorem output_apply (l : FVec Ideal S16x1 .f32) (a : FVec Ideal S16x128 .f32) (p : Vec Ideal S4x64 .f32) (g : Vec Ideal S1x128 .f32)
    (h : Fin 8) (d : Fin 128) : k0_pay1 l a p g (ix3 0 h d)
      = finish (lambdaOf fun i j => p (ix2 i j))
          (fun d => Ideal.div (a (ix2 ⟨h.val, by omega⟩ d)) (l (ix2 ⟨h.val, by omega⟩ 0)))
          (fun d => Ideal.div (a (ix2 ⟨8 + h.val, by omega⟩ d)) (l (ix2 ⟨8 + h.val, by omega⟩ 0))) (fun d => g (ix2 0 d)) d := by
  unfold finish lambdaOf
  pointwise [k0_pay1]

end Cert.DecodeStep

end
-- ==== Proof.DecodeCases.lean ====
module

public import proofs.«01_k».proof.Proof.DecodeStep
public import proofs.«01_k».proof.Proof.DecodeOuts

@[expose] public section

set_option maxRecDepth 16384
set_option maxHeartbeats 4000000

noncomputable section

/-!
# What a grid point leaves

The first point of a sequence starts the running softmax from the new token's own key and value; every point then takes in
its eight pages, and the last one writes the normed difference of the two softmaxes.
-/

namespace Cert.DecodeCases

open Idealize.ShloMosaic Idealize.ShloMosaic.TcCoe Idealize.ShloMosaic.Tactic Idealize.SL.Sem
open Cert.KernelIdeal Cert.KernelIdeal.Gen Cert.DecodeStep

theorem hz : (![0, 0] : Fin 2 → Nat) = fun _ => 0 := funext fun a => by fin_cases a <;> rfl

theorem hz3 : (![0, 0, 0] : Fin 3 → Nat) = fun _ => 0 := funext fun a => by fin_cases a <;> rfl

/-- A read of a whole buffer reads what the buffer holds. -/
theorem read_whole {S : Shape} {t : EltTy} {off : Fin S.rank → Nat} (hoff : off = fun _ => 0) {inb : ∀ a, off a + S.size a ≤ S.size a}
    (a : Memref sig .tc .vmem S t) (h : a.IsWhole) (x : Vec Ideal S t) :
    View.readAt (Elt Ideal) a.view (Rect.unit (s := S) off S.size inb).toLoadRect (h.unread x) = x := by
  rw [View.readAt_eq_ld, h.read_unread, View.ld_unit_zero hoff]

variable (c : Dev nD) (i : grid0.Coords)
  (a3 : Memref sig .tc .vmem S1x8x128 .bf16) (h3 : a3.IsWhole) (a4 : Memref sig .tc .vmem S1x8x128 .f32) (h4 :
  a4.IsWhole) (a5 : Memref sig .tc .vmem S1x8x128 .f32) (h5 : a5.IsWhole) (a6 : Memref sig .tc .vmem S4x64 .f32) (h6 :
  a6.IsWhole) (a7 : Memref sig .tc .vmem S1x128 .f32) (h7 : a7.IsWhole) (a8 : Memref sig .tc .vmem S1x1024x128 .f32)
  (h8 : a8.IsWhole) (a9 : Memref sig .tc .vmem S1x1024x128 .f32) (h9 : a9.IsWhole) (a10 : Memref sig .tc .vmem
  S1x1024x128 .f32) (h10 : a10.IsWhole) (a11 : Memref sig .tc .vmem S1x1024x128 .f32) (h11 : a11.IsWhole) (a12 :
  Memref sig .tc .vmem S1x1024x128 .f32) (h12 : a12.IsWhole) (a13 : Memref sig .tc .vmem S1x1024x128 .f32) (h13 :
  a13.IsWhole) (a14 : Memref sig .tc .vmem S1x1024x128 .f32) (h14 : a14.IsWhole) (a15 : Memref sig .tc .vmem
  S1x1024x128 .f32) (h15 : a15.IsWhole) (a16 : Memref sig .tc .vmem S1x1024x128 .f32) (h16 : a16.IsWhole) (a17 :
  Memref sig .tc .vmem S1x1024x128 .f32) (h17 : a17.IsWhole) (a18 : Memref sig .tc .vmem S1x1024x128 .f32) (h18 :
  a18.IsWhole) (a19 : Memref sig .tc .vmem S1x1024x128 .f32) (h19 : a19.IsWhole) (a20 : Memref sig .tc .vmem
  S1x1024x128 .f32) (h20 : a20.IsWhole) (a21 : Memref sig .tc .vmem S1x1024x128 .f32) (h21 : a21.IsWhole) (a22 :
  Memref sig .tc .vmem S1x1024x128 .f32) (h22 : a22.IsWhole) (a23 : Memref sig .tc .vmem S1x1024x128 .f32) (h23 :
  a23.IsWhole) (a24 : Memref sig .tc .vmem S1x8x128 .bf16) (h24 : a24.IsWhole) (a25 : Memref sig .tc .vmem S16x1 .f32)
  (h25 : a25.IsWhole) (a26 : Memref sig .tc .vmem S16x1 .f32) (h26 : a26.IsWhole) (a27 : Memref sig .tc .vmem S16x128
  .f32) (h27 : a27.IsWhole)
  (x0 : Vec Ideal S1x8x128 .bf16) (x1 x2 : Vec Ideal S1x8x128 .f32) (x3 : Vec Ideal S4x64 .f32) (x4 : Vec Ideal S1x128
  .f32) (x5 x6 x7 x8 x9 x10 x11 x12 x13 x14 x15 x16 x17 x18 x19 x20 : Vec Ideal S1x1024x128 .f32) (xt : TbBuf0 (F :=
  Ideal) c tbM0_0) (s0 s1 : Vec Ideal S16x1 .f32) (s2 : Vec Ideal S16x128 .f32)

/-- The greatest score the first point starts from. -/
abbrev start : FVec Ideal S16x1 .f32 := k0_pay2 (k0_pay5 x0) lanes x1

theorem first_top (hc0 : cond0_0 i) (hc1 : ¬cond0_1 i) :
    sout0_A_0
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt
    = newTop (k0_pay6 x0) ![x5, x6, x7, x8, x9, x10, x11, x12] (start x0 x1) := by
  unfold sout0_A_0
  rw [View.read_writes_eq_canon _ _ _ (scover0_A_0
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt)]
  unfold kernelRun0_A
  dsimp only
  sl_unfold_run_names
  rw [View.canon_cons_unit_zero (S := S16x1) hz]
  refine (shapeCast_self _ _).trans ?_
  simp only [View.readCov_unit_zero (S := S16x1) _ hz]
  rw [read_whole hz3 a3 h3, read_whole hz3 a4 h4, read_whole hz3 a8 h8, read_whole hz3 a9 h9, read_whole hz3 a10 h10,
    read_whole hz3 a11 h11, read_whole hz3 a12 h12, read_whole hz3 a13 h13, read_whole hz3 a14 h14, read_whole hz3 a15 h15]
  rfl

theorem first_sum (hc0 : cond0_0 i) (hc1 : ¬cond0_1 i) :
    sout0_A_1
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt
    = newSum (k0_pay6 x0) ![x5, x6, x7, x8, x9, x10, x11, x12] (start x0 x1) k0_pay3 := by
  unfold sout0_A_1
  rw [View.read_writes_eq_canon _ _ _ (scover0_A_1
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt)]
  unfold kernelRun0_A
  dsimp only
  sl_unfold_run_names
  rw [View.canon_cons_unit_zero (S := S16x1) hz]
  refine (shapeCast_self _ _).trans ?_
  simp only [View.readCov_unit_zero (S := S16x1) _ hz]
  rw [read_whole hz3 a3 h3, read_whole hz3 a4 h4, read_whole hz3 a8 h8, read_whole hz3 a9 h9, read_whole hz3 a10 h10,
    read_whole hz3 a11 h11, read_whole hz3 a12 h12, read_whole hz3 a13 h13, read_whole hz3 a14 h14, read_whole hz3 a15 h15]
  rfl

theorem first_acc (hc0 : cond0_0 i) (hc1 : ¬cond0_1 i) :
    sout0_A_2
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt
    = newAcc (k0_pay6 x0) ![x5, x6, x7, x8, x9, x10, x11, x12] ![x13, x14, x15, x16, x17, x18, x19, x20] (start x0 x1) (k0_pay4 x2) := by
  unfold sout0_A_2
  rw [View.read_writes_eq_canon _ _ _ (scover0_A_2
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt)]
  unfold kernelRun0_A
  dsimp only
  sl_unfold_run_names
  rw [View.canon_cons_unit_zero (S := S16x128) hz]
  refine (shapeCast_self _ _).trans ?_
  simp only [View.readCov_unit_zero (S := S16x1) _ hz, View.readCov_unit_zero (S := S16x128) _ hz]
  rw [read_whole hz3 a3 h3, read_whole hz3 a4 h4, read_whole hz3 a5 h5, read_whole hz3 a8 h8, read_whole hz3 a9 h9,
    read_whole hz3 a10 h10, read_whole hz3 a11 h11, read_whole hz3 a12 h12, read_whole hz3 a13 h13, read_whole hz3 a14 h14,
    read_whole hz3 a15 h15, read_whole hz3 a16 h16, read_whole hz3 a17 h17, read_whole hz3 a18 h18, read_whole hz3 a19 h19,
    read_whole hz3 a20 h20, read_whole hz3 a21 h21, read_whole hz3 a22 h22, read_whole hz3 a23 h23]
  rfl

theorem middle_top (hc0 : ¬cond0_0 i) (hc1 : ¬cond0_1 i) :
    sout0_B_0
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt s0 s1 s2
    = newTop (k0_pay6 x0) ![x5, x6, x7, x8, x9, x10, x11, x12] s0 := by
  unfold sout0_B_0
  rw [View.read_writes_eq_canon _ _ _ (scover0_B_0
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt s0 s1 s2)]
  unfold kernelRun0_B
  dsimp only
  sl_unfold_run_names
  rw [View.canon_unit_zero (S := S16x1) hz]
  refine (shapeCast_self _ _).trans ?_
  rw [read_whole hz3 a3 h3, read_whole hz a25 h25, read_whole hz3 a8 h8, read_whole hz3 a9 h9, read_whole hz3 a10 h10,
    read_whole hz3 a11 h11, read_whole hz3 a12 h12, read_whole hz3 a13 h13, read_whole hz3 a14 h14, read_whole hz3 a15 h15]
  rfl

theorem middle_sum (hc0 : ¬cond0_0 i) (hc1 : ¬cond0_1 i) :
    sout0_B_1
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt s0 s1 s2
    = newSum (k0_pay6 x0) ![x5, x6, x7, x8, x9, x10, x11, x12] s0 s1 := by
  unfold sout0_B_1
  rw [View.read_writes_eq_canon _ _ _ (scover0_B_1
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt s0 s1 s2)]
  unfold kernelRun0_B
  dsimp only
  sl_unfold_run_names
  rw [View.canon_unit_zero (S := S16x1) hz]
  refine (shapeCast_self _ _).trans ?_
  rw [read_whole hz3 a3 h3, read_whole hz a25 h25, read_whole hz3 a8 h8, read_whole hz3 a9 h9, read_whole hz3 a10 h10,
    read_whole hz3 a11 h11, read_whole hz3 a12 h12, read_whole hz3 a13 h13, read_whole hz3 a14 h14, read_whole hz3 a15 h15,
    read_whole hz a26 h26]
  rfl

theorem middle_acc (hc0 : ¬cond0_0 i) (hc1 : ¬cond0_1 i) :
    sout0_B_2
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt s0 s1 s2
    = newAcc (k0_pay6 x0) ![x5, x6, x7, x8, x9, x10, x11, x12] ![x13, x14, x15, x16, x17, x18, x19, x20] s0 s2 := by
  unfold sout0_B_2
  rw [View.read_writes_eq_canon _ _ _ (scover0_B_2
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt s0 s1 s2)]
  unfold kernelRun0_B
  dsimp only
  sl_unfold_run_names
  rw [View.canon_unit_zero (S := S16x128) hz]
  refine (shapeCast_self _ _).trans ?_
  rw [read_whole hz3 a3 h3, read_whole hz a25 h25, read_whole hz3 a8 h8, read_whole hz3 a9 h9, read_whole hz3 a10 h10,
    read_whole hz3 a11 h11, read_whole hz3 a12 h12, read_whole hz3 a13 h13, read_whole hz3 a14 h14, read_whole hz3 a15 h15,
    read_whole hz3 a16 h16, read_whole hz3 a17 h17, read_whole hz3 a18 h18, read_whole hz3 a19 h19, read_whole hz3 a20 h20,
    read_whole hz3 a21 h21, read_whole hz3 a22 h22, read_whole hz3 a23 h23, read_whole hz a27 h27]
  rfl

theorem last_top (hc0 : ¬cond0_0 i) (hc1 : cond0_1 i) :
    sout0_C_0
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt s0 s1 s2
    = newTop (k0_pay6 x0) ![x5, x6, x7, x8, x9, x10, x11, x12] s0 := by
  unfold sout0_C_0
  rw [View.read_writes_eq_canon _ _ _ (scover0_C_0
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt s0 s1 s2)]
  unfold kernelRun0_C
  dsimp only
  sl_unfold_run_names
  rw [View.canon_unit_zero (S := S16x1) hz]
  refine (shapeCast_self _ _).trans ?_
  rw [read_whole hz3 a3 h3, read_whole hz a25 h25, read_whole hz3 a8 h8, read_whole hz3 a9 h9, read_whole hz3 a10 h10,
    read_whole hz3 a11 h11, read_whole hz3 a12 h12, read_whole hz3 a13 h13, read_whole hz3 a14 h14, read_whole hz3 a15 h15]
  rfl

theorem last_sum (hc0 : ¬cond0_0 i) (hc1 : cond0_1 i) :
    sout0_C_1
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt s0 s1 s2
    = newSum (k0_pay6 x0) ![x5, x6, x7, x8, x9, x10, x11, x12] s0 s1 := by
  unfold sout0_C_1
  rw [View.read_writes_eq_canon _ _ _ (scover0_C_1
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt s0 s1 s2)]
  unfold kernelRun0_C
  dsimp only
  sl_unfold_run_names
  rw [View.canon_unit_zero (S := S16x1) hz]
  refine (shapeCast_self _ _).trans ?_
  rw [read_whole hz3 a3 h3, read_whole hz a25 h25, read_whole hz3 a8 h8, read_whole hz3 a9 h9, read_whole hz3 a10 h10,
    read_whole hz3 a11 h11, read_whole hz3 a12 h12, read_whole hz3 a13 h13, read_whole hz3 a14 h14, read_whole hz3 a15 h15,
    read_whole hz a26 h26]
  rfl

theorem last_acc (hc0 : ¬cond0_0 i) (hc1 : cond0_1 i) :
    sout0_C_2
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt s0 s1 s2
    = newAcc (k0_pay6 x0) ![x5, x6, x7, x8, x9, x10, x11, x12] ![x13, x14, x15, x16, x17, x18, x19, x20] s0 s2 := by
  unfold sout0_C_2
  rw [View.read_writes_eq_canon _ _ _ (scover0_C_2
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt s0 s1 s2)]
  unfold kernelRun0_C
  dsimp only
  sl_unfold_run_names
  rw [View.canon_unit_zero (S := S16x128) hz]
  refine (shapeCast_self _ _).trans ?_
  rw [read_whole hz3 a3 h3, read_whole hz a25 h25, read_whole hz3 a8 h8, read_whole hz3 a9 h9, read_whole hz3 a10 h10,
    read_whole hz3 a11 h11, read_whole hz3 a12 h12, read_whole hz3 a13 h13, read_whole hz3 a14 h14, read_whole hz3 a15 h15,
    read_whole hz3 a16 h16, read_whole hz3 a17 h17, read_whole hz3 a18 h18, read_whole hz3 a19 h19, read_whole hz3 a20 h20,
    read_whole hz3 a21 h21, read_whole hz3 a22 h22, read_whole hz3 a23 h23, read_whole hz a27 h27]
  rfl

theorem last_out (hc0 : ¬cond0_0 i) (hc1 : cond0_1 i) :
    out0_C_21
      c i a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 a24 h24 a25 h25 a26 h26 a27 h27 hc0 hc1 x0 x1 x2 x3 x4 x5 x6 x7
      x8 x9 x10 x11 x12 x13 x14 x15 x16 x17 x18 x19 x20 xt s0 s1 s2
    = k0_pay1 (newSum (k0_pay6 x0) ![x5, x6, x7, x8, x9, x10, x11, x12] s0 s1) (newAcc (k0_pay6 x0) ![x5, x6, x7, x8, x9, x10, x11, x12] ![x13, x14, x15, x16, x17, x18, x19, x20] s0 s2) x3 x4 := by
  unfold out0_C_21
  rw [View.read_writes_eq_canon _ _ _ (cover0_C_21
    c i a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 a25 h25 a26 h26 a27 h27 hc0 hc1 x0 x1 x2 x3 x4 x5 x6 x7 x8 x9
    x10 x11 x12 x13 x14 x15 x16 x17 x18 x19 x20 xt s0 s1 s2)]
  unfold kernelRun0_C
  dsimp only
  sl_unfold_run_names
  rw [View.canon_unit_zero (S := S1x8x128) hz3]
  rw [read_whole hz3 a3 h3, read_whole hz a25 h25, read_whole hz3 a8 h8, read_whole hz3 a9 h9, read_whole hz3 a10 h10,
    read_whole hz3 a11 h11, read_whole hz3 a12 h12, read_whole hz3 a13 h13, read_whole hz3 a14 h14, read_whole hz3 a15 h15,
    read_whole hz3 a16 h16, read_whole hz3 a17 h17, read_whole hz3 a18 h18, read_whole hz3 a19 h19, read_whole hz3 a20 h20,
    read_whole hz3 a21 h21, read_whole hz3 a22 h22, read_whole hz3 a23 h23, read_whole hz a26 h26, read_whole hz a27 h27,
    read_whole hz a6 h6, read_whole hz a7 h7]
  rfl

end Cert.DecodeCases

end
-- ==== Proof.DecodeKeys.lean ====
module

public import proofs.«01_k».proof.Proof.Online

@[expose] public section

noncomputable section

/-!
# The keys of a sequence, read in pages

A sequence has 16384 cached keys and the new token's own. The running softmax meets the own key first and then, block
after block, eight pages of 128 slots; of a page's 1024 columns, eight to a slot, only those of one head count, and the
others score `⊥`.
-/

namespace Cert.DecodeKeys

open Idealize.ShloMosaic Cert.Online

/-- Key number `1024 j + 128 p + t`: slot `t` of page `p` of block `j`. -/
abbrev keyAt (j : Fin 16) (p : Fin 8) (t : Fin 128) : Fin 16384 := ⟨1024 * j.val + 128 * p.val + t.val, by omega⟩

/-- Column `8 t + h` of a page: head `h` of slot `t`. -/
abbrev col (t : Fin 128) (h : Fin 8) : Fin 1024 := ⟨8 * t.val + h.val, by omega⟩

theorem sum_columns (f : Fin 1024 → EReal) : ∑ u, f u = ∑ t : Fin 128, ∑ h : Fin 8, f (col t h) := by
  rw [← Fintype.sum_prod_type' (f := fun t h => f (col t h)), ← (finProdFinEquiv (m := 128) (n := 8)).sum_comp f]
  exact Finset.sum_congr rfl fun x _ => congrArg f (Fin.ext (Nat.add_comm _ _))

theorem sum_keys (f : Fin 16384 → EReal) : ∑ s, f s = ∑ j : Fin 16, ∑ p : Fin 8, ∑ t : Fin 128, f (keyAt j p t) := by
  have inner (j : Fin 16) : ∑ p : Fin 8, ∑ t : Fin 128, f (keyAt j p t)
      = ∑ u : Fin 1024, f (finProdFinEquiv (m := 16) (n := 1024) (j, u)) := by
    rw [← Fintype.sum_prod_type' (f := fun p t => f (keyAt j p t)), ← (finProdFinEquiv (m := 8) (n := 128)).sum_comp]
    refine Finset.sum_congr rfl fun x _ => congrArg f (Fin.ext ?_)
    show 1024 * j.val + 128 * x.1.val + x.2.val = (x.2.val + 128 * x.1.val) + 1024 * j.val
    omega
  rw [← (finProdFinEquiv (m := 16) (n := 1024)).sum_comp f, Fintype.sum_prod_type]
  exact Finset.sum_congr rfl fun j _ => (inner j).symm

section Pages

variable (σ w : Fin 16385 → EReal) (h : Fin 8) (s0 w0 : EReal) (s v : ℕ → Fin 8 × Fin 1024 → EReal)

/-- The pages' scores and weights, at the columns of head `h`, are the keys' own. -/
structure Pages : Prop where
  own_score : s0 = σ (Fin.last 16384)
  score : ∀ (j : Fin 16) (p : Fin 8) (t : Fin 128), s j.val (p, col t h) = σ (keyAt j p t).castSucc
  masked : ∀ (j : Fin 16) (p : Fin 8) (u : Fin 1024), u.val % 8 ≠ h.val → s j.val (p, u) = ⊥

variable {σ h s0 s}

/-- The greatest score over the pages is the greatest over the keys. -/
theorem Pages.top_eq (H : Pages σ h s0 s) : top s0 s 16 = Finset.univ.sup σ := by
  refine eq_of_forall_ge_iff fun B => ?_
  rw [top_le_iff_forall, Finset.sup_le_iff]
  constructor
  · rintro ⟨h0, hs⟩ i -
    induction i using Fin.lastCases with
    | last => exact H.own_score ▸ h0
    | cast i =>
      have e : i = keyAt ⟨i.val / 1024, by omega⟩ ⟨i.val / 128 % 8, by omega⟩ ⟨i.val % 128, by omega⟩ :=
        Fin.ext (by show i.val = 1024 * (i.val / 1024) + 128 * (i.val / 128 % 8) + i.val % 128; omega)
      rw [e, ← H.score]
      exact hs _ (by show i.val / 1024 < 16; omega) _
  · intro hb
    refine ⟨H.own_score ▸ hb _ (Finset.mem_univ _), fun j hj k => ?_⟩
    obtain ⟨p, u⟩ := k
    by_cases hu : u.val % 8 = h.val
    · have e : u = col ⟨u.val / 8, by omega⟩ h := Fin.ext (by show u.val = 8 * (u.val / 8) + h.val; omega)
      rw [e]
      exact (H.score ⟨j, hj⟩ p ⟨u.val / 8, by omega⟩).le.trans (hb _ (Finset.mem_univ _))
    · exact (H.masked ⟨j, hj⟩ p u hu).le.trans bot_le

/-- The sum over the pages is the sum over the keys. -/
theorem Pages.wsum_eq (H : Pages σ h s0 s) (M : EReal) (hw : w0 = w (Fin.last 16384))
    (hv : ∀ (j : Fin 16) (p : Fin 8) (t : Fin 128), v j.val (p, col t h) = w (keyAt j p t).castSucc) :
    wsum s0 w0 s v 16 M = ∑ i, Ideal.exp (σ i - M) * w i := by
  unfold wsum
  rw [Fin.sum_univ_castSucc, add_comm, ← H.own_score, ← hw, Finset.sum_range, sum_keys]
  refine congrArg (· + _) (Finset.sum_congr rfl fun j _ => ?_)
  rw [Fintype.sum_prod_type]
  refine Finset.sum_congr rfl fun p _ => ?_
  rw [sum_columns]
  refine Finset.sum_congr rfl fun t _ => ?_
  rw [Finset.sum_eq_single h, H.score, hv]
  · intro a _ ha
    rw [H.masked j p (col t a) (by
      show (8 * t.val + a.val) % 8 ≠ h.val
      have : a.val ≠ h.val := fun e => ha (Fin.ext e)
      omega), EReal.bot_sub]
    exact zero_mul _
  · exact fun e => absurd (Finset.mem_univ _) e

end Pages

/-- One softmax of a head: the keys' weights, by the exponentials of their scores, over those exponentials' sum. -/
def attend (σ w : Fin 16385 → EReal) : EReal :=
  Ideal.div (∑ i, Ideal.exp (σ i - Finset.univ.sup σ) * w i) (∑ i, Ideal.exp (σ i - Finset.univ.sup σ))

/-- The running softmax ends with it. -/
theorem Pages.attend_eq {σ : Fin 16385 → EReal} (w : Fin 16385 → EReal) {h : Fin 8} {s0 : EReal} (w0 : EReal) {s : ℕ → Fin 8 × Fin 1024 → EReal}
    (v : ℕ → Fin 8 × Fin 1024 → EReal) (H : Pages σ h s0 s) (hw : w0 = w (Fin.last 16384))
    (hv : ∀ (j : Fin 16) (p : Fin 8) (t : Fin 128), v j.val (p, col t h) = w (keyAt j p t).castSucc) :
    Ideal.div (wsum s0 w0 s v 16 (top s0 s 16)) (wsum s0 1 s (fun _ _ => 1) 16 (top s0 s 16)) = attend σ w := by
  rw [H.wsum_eq w w0 v _ hw hv, H.wsum_eq (fun _ => 1) 1 (fun _ _ => 1) _ rfl fun _ _ _ => rfl, H.top_eq]
  simp only [mul_one]
  rfl

end Cert.DecodeKeys

end
-- ==== Proof.DecodeState.lean ====
module

public import proofs.«01_k».proof.Proof.DecodeCases
public import proofs.«01_k».proof.Proof.DecodeKeys
public import proofs.«01_k».proof.Proof.DecodePoints

@[expose] public section

set_option maxRecDepth 16384

noncomputable section

/-!
# The running softmax over a sequence's points

Point `n` of the grid is point `n % 16` of sequence `n / 16`. After it the kept state is the running softmax of the new
token's own key and of the pages of the points so far.
-/

namespace Cert.DecodeState

open Idealize.ShloMosaic Idealize.ShloMosaic.TcCoe Idealize.ShloMosaic.Tactic Idealize.SL.Sem
open Cert.KernelIdeal Cert.KernelIdeal.Gen Cert.DecodeStep Cert.Online

/-! ## One point's step -/

section Step

variable (q : FVec Ideal S16x128 .bf16) (k v : Fin 8 → Vec Ideal S1x1024x128 .f32)
  (m l : FVec Ideal S16x1 .f32) (a : FVec Ideal S16x128 .f32) (r : Fin 16) (d : Fin 128)
  (s0 v0 : EReal) (s w : ℕ → Fin 8 × Fin 1024 → EReal) (n : ℕ)

theorem step_top (hs : s n = score q k r) (hm : m (ix2 r 0) = top s0 s n) : newTop q k m (ix2 r 0) = top s0 s (n + 1) := by
  rw [newTop_apply, hm, ← hs]
  rfl

theorem step_sum (hs : s n = score q k r) (hm : m (ix2 r 0) = top s0 s n)
    (hl : ∀ M, top s0 s n ≤ M → Ideal.exp (top s0 s n - M) * l (ix2 r 0) = wsum s0 1 s (fun _ _ => 1) n M) :
    newSum q k m l (ix2 r 0) = wsum s0 1 s (fun _ _ => 1) (n + 1) (top s0 s (n + 1)) := by
  rw [newSum_apply, step_top q k m r s0 s n hs hm, hm, ← step s0 1 s (fun _ _ => 1) n _ hl, hs]
  simp only [mul_one]

theorem step_acc (hs : s n = score q k r) (hm : m (ix2 r 0) = top s0 s n) (hw : ∀ x, w n x = v x.1 (ix3 0 x.2 d))
    (ha : ∀ M, top s0 s n ≤ M → Ideal.exp (top s0 s n - M) * a (ix2 r d) = wsum s0 v0 s w n M) :
    newAcc q k v m a (ix2 r d) = wsum s0 v0 s w (n + 1) (top s0 s (n + 1)) := by
  rw [newAcc_apply, step_top q k m r s0 s n hs hm, hm, ← step s0 v0 s w n _ ha, hs]
  simp only [hw]

end Step

/-! ## The points -/

variable (m : (ℓ : Loc nD τ sig) → Buf (Elt Ideal) ℓ) (hO : Ok m) (c : Dev nD)

/-- Point `n` of the grid. -/
noncomputable def point (n : ℕ) : Fin (cfgM m hO).N :=
  ⟨n % 512, lt_of_lt_of_eq (Nat.mod_lt _ (by decide)) (show 512 = (cfgM m hO).N from N_0.symm)⟩

theorem point_val (t : Fin (cfgM m hO).N) : point m hO t.val = t :=
  Fin.ext (Nat.mod_eq_of_lt (lt_of_lt_of_eq t.isLt (show (cfgM m hO).N = 512 from N_0)))

/-- The queries, the eight pages of keys and the eight pages of values that point `t` works on. -/
noncomputable def queries (t : Fin (cfgM m hO).N) : FVec Ideal S16x128 .bf16 := k0_pay6 (iblk m hO c 0 t : Vec Ideal S1x8x128 .bf16)

noncomputable def keys (t : Fin (cfgM m hO).N) : Fin 8 → Vec Ideal S1x1024x128 .f32 :=
  ![iblk m hO c 5 t, iblk m hO c 6 t, iblk m hO c 7 t, iblk m hO c 8 t, iblk m hO c 9 t, iblk m hO c 10 t, iblk m hO c 11 t, iblk m hO c 12 t]

noncomputable def values (t : Fin (cfgM m hO).N) : Fin 8 → Vec Ideal S1x1024x128 .f32 :=
  ![iblk m hO c 13 t, iblk m hO c 14 t, iblk m hO c 15 t, iblk m hO c 16 t, iblk m hO c 17 t, iblk m hO c 18 t, iblk m hO c 19 t, iblk m hO c 20 t]

/-- The new token's own score in sequence `b` and row `r`, and its own value. -/
noncomputable def ownScore (b : ℕ) (r : Fin 16) : EReal :=
  DecodeCases.start (iblk m hO c 0 (point m hO (16 * b))) (iblk m hO c 1 (point m hO (16 * b))) (ix2 r 0)

noncomputable def ownValue (b : ℕ) (r : Fin 16) (d : Fin 128) : EReal :=
  k0_pay4 (F := Ideal) (iblk m hO c 2 (point m hO (16 * b))) (ix2 r d)

/-- The scores and the values of block `j` of sequence `b`'s pages. -/
noncomputable def pageScore (b : ℕ) (r : Fin 16) (j : ℕ) : Fin 8 × Fin 1024 → EReal :=
  score (queries m hO c (point m hO (16 * b + j))) (keys m hO c (point m hO (16 * b + j))) r

noncomputable def pageValue (b : ℕ) (d : Fin 128) (j : ℕ) (x : Fin 8 × Fin 1024) : EReal :=
  values m hO c (point m hO (16 * b + j)) x.1 (ix3 0 x.2 d)

/-- The greatest score of sequence `b` before block `n` of its pages. -/
noncomputable abbrev best (b : ℕ) (r : Fin 16) (n : ℕ) : EReal := top (ownScore m hO c b r) (pageScore m hO c b r) n

/-- What the kept state and the output block are after point `n`. -/
structure Holds (n : ℕ) (st : Vec Ideal S1x8x128 .bf16 × Vec Ideal S16x1 .f32 × Vec Ideal S16x1 .f32 × Vec Ideal S16x128 .f32) : Prop where
  top : ∀ r, st.2.1 (ix2 r 0) = best m hO c (n / 16) r (n % 16 + 1)
  sum : ∀ r, st.2.2.1 (ix2 r 0) = wsum (ownScore m hO c (n / 16) r) 1 (pageScore m hO c (n / 16) r) (fun _ _ => 1) (n % 16 + 1)
    (best m hO c (n / 16) r (n % 16 + 1))
  acc : ∀ r d, st.2.2.2 (ix2 r d) = wsum (ownScore m hO c (n / 16) r) (ownValue m hO c (n / 16) r d) (pageScore m hO c (n / 16) r)
    (pageValue m hO c (n / 16) d) (n % 16 + 1) (best m hO c (n / 16) r (n % 16 + 1))
  out : n % 16 = 15 → st.1 = k0_pay1 st.2.2.1 st.2.2.2 (iblk m hO c 3 (point m hO n) : Vec Ideal S4x64 .f32) (iblk m hO c 4 (point m hO n) : Vec Ideal S1x128 .f32)

/-- The state after a point, from the state before it. -/
theorem holds_of (n : ℕ) (sm sl : FVec Ideal S16x1 .f32) (sa : FVec Ideal S16x128 .f32)
    (hm : ∀ r, sm (ix2 r 0) = best m hO c (n / 16) r (n % 16))
    (hl : ∀ r M, best m hO c (n / 16) r (n % 16) ≤ M → Ideal.exp (best m hO c (n / 16) r (n % 16) - M) * sl (ix2 r 0)
      = wsum (ownScore m hO c (n / 16) r) 1 (pageScore m hO c (n / 16) r) (fun _ _ => 1) (n % 16) M)
    (ha : ∀ r d M, best m hO c (n / 16) r (n % 16) ≤ M → Ideal.exp (best m hO c (n / 16) r (n % 16) - M) * sa (ix2 r d)
      = wsum (ownScore m hO c (n / 16) r) (ownValue m hO c (n / 16) r d) (pageScore m hO c (n / 16) r) (pageValue m hO c (n / 16) d) (n % 16) M)
    (st : Vec Ideal S1x8x128 .bf16 × Vec Ideal S16x1 .f32 × Vec Ideal S16x1 .f32 × Vec Ideal S16x128 .f32)
    (e0 : st.2.1 = newTop (queries m hO c (point m hO n)) (keys m hO c (point m hO n)) sm)
    (e1 : st.2.2.1 = newSum (queries m hO c (point m hO n)) (keys m hO c (point m hO n)) sm sl)
    (e2 : st.2.2.2 = newAcc (queries m hO c (point m hO n)) (keys m hO c (point m hO n)) (values m hO c (point m hO n)) sm sa)
    (eo : n % 16 = 15 → st.1 = k0_pay1 st.2.2.1 st.2.2.2 (iblk m hO c 3 (point m hO n) : Vec Ideal S4x64 .f32) (iblk m hO c 4 (point m hO n) : Vec Ideal S1x128 .f32)) :
    Holds m hO c n st := by
  have hp : point m hO (16 * (n / 16) + n % 16) = point m hO n := congrArg _ (Nat.div_add_mod n 16)
  have hs : ∀ r, pageScore m hO c (n / 16) r (n % 16) = score (queries m hO c (point m hO n)) (keys m hO c (point m hO n)) r := fun r => by
    unfold pageScore; rw [hp]
  have hw : ∀ d x, pageValue m hO c (n / 16) d (n % 16) x = values m hO c (point m hO n) x.1 (ix3 0 x.2 d) := fun d x => by
    unfold pageValue; rw [hp]
  exact ⟨fun r => by rw [e0]; exact step_top _ _ _ r _ _ _ (hs r) (hm r),
    fun r => by rw [e1]; exact step_sum _ _ _ _ r _ _ _ (hs r) (hm r) (hl r),
    fun r d => by rw [e2]; exact step_acc _ _ _ _ _ r d _ _ _ _ _ (hs r) (hm r) (hw d) (ha r d), eo⟩

/-- The first point of a sequence. -/
theorem holds_first (t : Fin (cfgM m hO).N) (h0 : t.val % 16 = 0) (h1 : ¬t.val % 16 = 15) : Holds m hO c t.val (pointA m hO c t h0 h1) := by
  have hb : point m hO (16 * (t.val / 16)) = t := by
    rw [show 16 * (t.val / 16) = t.val by omega, point_val]
  refine holds_of m hO c t.val (DecodeCases.start (iblk m hO c 0 t) (iblk m hO c 1 t)) k0_pay3 (k0_pay4 (iblk m hO c 2 t)) ?_ ?_ ?_ _ ?_ ?_ ?_
    (fun h => absurd h h1)
  · intro r
    rw [h0]
    show _ = ownScore m hO c (t.val / 16) r
    unfold ownScore
    rw [hb]
  · intro r M _
    rw [h0, first_sum_apply, ← Online.start]
    rfl
  · intro r d M _
    rw [h0, ← Online.start]
    unfold ownValue
    rw [hb]
    rfl
  · rw [point_val]; unfold pointA; dsimp only; exact DecodeCases.first_top ..
  · rw [point_val]; unfold pointA; dsimp only; exact DecodeCases.first_sum ..
  · rw [point_val]; unfold pointA; dsimp only; exact DecodeCases.first_acc ..

/-- A later point of it. -/
theorem holds_next (n : ℕ) (hn : n + 1 < (cfgM m hO).N) (h0 : ¬(n + 1) % 16 = 0)
    (st prev : Vec Ideal S1x8x128 .bf16 × Vec Ideal S16x1 .f32 × Vec Ideal S16x1 .f32 × Vec Ideal S16x128 .f32) (ih : Holds m hO c n prev)
    (e0 : st.2.1 = newTop (queries m hO c ⟨n + 1, hn⟩) (keys m hO c ⟨n + 1, hn⟩) prev.2.1)
    (e1 : st.2.2.1 = newSum (queries m hO c ⟨n + 1, hn⟩) (keys m hO c ⟨n + 1, hn⟩) prev.2.1 prev.2.2.1)
    (e2 : st.2.2.2 = newAcc (queries m hO c ⟨n + 1, hn⟩) (keys m hO c ⟨n + 1, hn⟩) (values m hO c ⟨n + 1, hn⟩) prev.2.1 prev.2.2.2)
    (eo : (n + 1) % 16 = 15 → st.1 = k0_pay1 st.2.2.1 st.2.2.2 (iblk m hO c 3 ⟨n + 1, hn⟩ : Vec Ideal S4x64 .f32) (iblk m hO c 4 ⟨n + 1, hn⟩ : Vec Ideal S1x128 .f32)) :
    Holds m hO c (n + 1) st := by
  have hp : point m hO (n + 1) = ⟨n + 1, hn⟩ := point_val m hO ⟨n + 1, hn⟩
  have hd : (n + 1) / 16 = n / 16 := by omega
  have hr : (n + 1) % 16 = n % 16 + 1 := by omega
  refine holds_of m hO c (n + 1) prev.2.1 prev.2.2.1 prev.2.2.2 ?_ ?_ ?_ st (by rw [hp]; exact e0) (by rw [hp]; exact e1)
    (by rw [hp]; exact e2) (by rw [hp]; exact eo)
  · intro r
    rw [hd, hr]
    exact ih.top r
  · intro r M hM
    rw [hd, hr] at hM ⊢
    rw [ih.sum r]
    exact rescale _ _ _ _ _ M hM
  · intro r d M hM
    rw [hd, hr] at hM ⊢
    rw [ih.acc r d]
    exact rescale _ _ _ _ _ M hM

theorem holds : ∀ (n : ℕ) (hn : n < (cfgM m hO).N), Holds m hO c n (outsAt0 m hO c n hn)
  | 0, hn => holds_first m hO c ⟨0, hn⟩ rfl (show ¬ 0 % 16 = 15 by decide)
  | n + 1, hn => by
    by_cases h0 : (n + 1) % 16 = 0
    · have h1 : ¬(n + 1) % 16 = 15 := by omega
      rw [outsAt0_A m hO c ⟨n + 1, hn⟩ h0 h1]
      exact holds_first m hO c ⟨n + 1, hn⟩ h0 h1
    · by_cases h1 : (n + 1) % 16 = 15
      · rw [outsAt0_C m hO c ⟨n + 1, hn⟩ h0 h1]
        refine holds_next m hO c n hn h0 _ (outsAt0 m hO c n (Nat.lt_of_succ_lt hn)) (holds n _) ?_ ?_ ?_ fun _ => ?_
        · unfold pointC; dsimp only; exact DecodeCases.last_top ..
        · unfold pointC; dsimp only; exact DecodeCases.last_sum ..
        · unfold pointC; dsimp only; exact DecodeCases.last_acc ..
        · unfold pointC
          dsimp only
          exact (DecodeCases.last_out ..).trans (congrArg₂ (fun a b => k0_pay1 a b _ _) (DecodeCases.last_sum ..).symm
            (DecodeCases.last_acc ..).symm)
      · rw [outsAt0_B m hO c ⟨n + 1, hn⟩ h0 h1]
        refine holds_next m hO c n hn h0 _ (outsAt0 m hO c n (Nat.lt_of_succ_lt hn)) (holds n _) ?_ ?_ ?_ fun h => absurd h h1
        · unfold pointB; dsimp only; exact DecodeCases.middle_top ..
        · unfold pointB; dsimp only; exact DecodeCases.middle_sum ..
        · unfold pointB; dsimp only; exact DecodeCases.middle_acc ..

end Cert.DecodeState

end
-- ==== Proof.DecodePages.lean ====
module

public import Idealize.ShloMosaic.Lib.Pointwise
public import proofs.«01_k».proof.Proof.Gen.Pre_in_pool
public import proofs.«01_k».proof.Proof.Gen.KernelIdeal.Frame.Runs

@[expose] public section

noncomputable section

/-! # The page table: which pages a grid point reads, and that they lie in the pool -/

namespace Cert.DecodePages

open Idealize.ShloMosaic Idealize.ShloMosaic.TcCoe Idealize.ShloMosaic.Tactic
open Cert.KernelIdeal Cert.KernelIdeal.Gen

variable {F : FTy → Type} [FloatOps F] [Named F]

/-- The page number the point's page `p` is read from. -/
def word (pf : pre0.Contents (Elt F)) (i : grid0.Coords) (p : Fin 8) : BitVec 32 :=
  pf.at 0 (Rect.unit (s := S32x128) (k0_off1 i (BitVec.ofNat 32 p.val)) S1x1.size (k0_off1_inb i p)) numel1_S1x1

/-- A page number below 5120 names a block inside the pool. -/
theorem page_inside {x : ℕ} (h : x < 5120) :
    ∃ h : (∀ a, ((![x, 0, 0] : Fin 3 → ℕ) a + 1) * S1x1024x128.size a ≤ S5120x1024x128.size a), EltTy.bits .f32 = 32 ∨
      (Rect.block (s := S5120x1024x128) S1x1024x128.size (![x, 0, 0] : Fin 3 → ℕ) h).WholeWords (EltTy.packing .f32) :=
  ⟨fun a => match a with
    | 0 => show (x + 1) * 1 ≤ 5120 by omega
    | 1 => show (0 + 1) * 1024 ≤ 1024 by omega
    | 2 => show (0 + 1) * 128 ≤ 128 by omega, .inl rfl⟩

/-- With every page number in the pool, every window's block lies in its array. -/
theorem blocks_inside (pf : pre0.Contents (Elt F)) (h : ∀ i p, (word pf i p).toNat < 5120) : ok0 pf :=
  ⟨fun i => page_inside (h i 0), fun i => page_inside (h i 1), fun i => page_inside (h i 2), fun i => page_inside (h i 3),
    fun i => page_inside (h i 4), fun i => page_inside (h i 5), fun i => page_inside (h i 6), fun i => page_inside (h i 7),
    fun i => page_inside (h i 0), fun i => page_inside (h i 1), fun i => page_inside (h i 2), fun i => page_inside (h i 3),
    fun i => page_inside (h i 4), fun i => page_inside (h i 5), fun i => page_inside (h i 6), fun i => page_inside (h i 7)⟩

variable (m : (ℓ : Loc nD τ sig) → Buf (Elt F) ℓ)

/-- The page table among the arguments. -/
abbrev aT (c : Dev nD) : IVec S32x128 32 := m ((c : Thread nD τ).loc main_arg5)

theorem entry_offset (i : grid0.Coords) (p : Fin 8) : k0_off1 i (BitVec.ofNat 32 p.val) = ![(i 0).val, (i 1).val * 8 + p.val] := by
  have h0 : (i 0).val < 32 := (i 0).isLt
  have h1 : (i 1).val < 16 := (i 1).isLt
  have hp := p.isLt
  unfold k0_off1
  funext a
  match a with
  | 0 =>
    show (BitVec.ofNat 32 (i 0).val).toNat = (i 0).val
    rw [BitVec.toNat_ofNat]; omega
  | 1 =>
    show (BitVec.ofNat 32 (i 1).val * 8#32 + BitVec.ofNat 32 p.val).toNat = (i 1).val * 8 + p.val
    rw [BitVec.toNat_add, BitVec.toNat_mul, BitVec.toNat_ofNat, BitVec.toNat_ofNat, BitVec.toNat_ofNat]
    omega

/-- The point's page `p` is entry `8 j + p` of its sequence's row of the table. -/
theorem word_eq (i : grid0.Coords) (p : Fin 8) :
    word (tbl m) i p = aT m 0 (ix2 (i 0) ⟨(i 1).val * 8 + p.val, by have h : (i 1).val < 16 := (i 1).isLt; have := p.isLt; omega⟩) := by
  unfold word
  show tbl m 0 _ = _
  unfold tbl
  show V m 0 main_arg5 _ = _
  rw [V_main_arg5]
  refine congrArg (aT m 0) (funext fun (a : Fin 2) => Fin.ext ?_)
  have e := congrFun (entry_offset i p) a
  match a with
  | 0 => show k0_off1 i (BitVec.ofNat 32 p.val) 0 + 1 * 0 = (i 0).val; rw [e]; rfl
  | 1 => show k0_off1 i (BitVec.ofNat 32 p.val) 1 + 1 * 0 = (i 1).val * 8 + p.val; rw [e]; rfl

/-- The precondition, read at one entry of the table. -/
theorem entry_lt (a0 a1 a2 : FVec F S32x1x8x128 .f32) (a3 a4 : FVec F S1x5120x128x8x128 .f32) (a5 : IVec S32x128 32)
    (a6 a7 a8 a9 : FVec F S1x64 .f32) (a10 : FVec F S1x128 .f32)
    (h : Cert.Pre_in_pool.fn (F := F) a0 a1 a2 a3 a4 a5 a6 a7 a8 a9 a10 = fun _ => 1#1) (y : S32x128.Idx) : (a5 y).toNat < 5120 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  have e := congrFun h y
  simp only [Pre_in_pool.fn, andi, cmpi, broadcastInDim, constantI, IntOp.cmpi, both, one, Bool.and_eq_true] at e
  obtain ⟨low, high⟩ := e
  simp only [BitVec.sle, BitVec.slt, decide_eq_true_eq, BitVec.toInt, BitVec.toNat_ofNat] at low high
  omega

/-- Under the precondition every block lies in its array. -/
theorem ok_of_entries (h : ∀ y, (aT m 0 y).toNat < 5120) : Ok m :=
  blocks_inside (tbl m) fun i p => by rw [word_eq]; exact h _

end Cert.DecodePages

end
-- ==== Proof.DecodeBlocks.lean ====
module

public import proofs.«01_k».proof.Proof.DecodePages
public import proofs.«01_k».proof.Proof.DecodeStep

@[expose] public section

set_option maxRecDepth 16384

noncomputable section

/-! # What the blocks of a point hold, in terms of the arguments -/

namespace Cert.DecodeBlocks

open Idealize.ShloMosaic Idealize.ShloMosaic.TcCoe Idealize.ShloMosaic.Tactic Idealize.ShloMosaic.Pointwise Idealize.SL.Sem
open Cert.KernelIdeal Cert.KernelIdeal.Gen Cert.DecodePages

variable (m : (ℓ : Loc nD τ sig) → Buf (Elt Ideal) ℓ) (hO : Ok m) (c : Dev nD)

/-! ## The arguments -/

abbrev aQ : FVec Ideal S32x1x8x128 .f32 := m ((c : Thread nD τ).loc main_arg0)
abbrev aK : FVec Ideal S32x1x8x128 .f32 := m ((c : Thread nD τ).loc main_arg1)
abbrev aV : FVec Ideal S32x1x8x128 .f32 := m ((c : Thread nD τ).loc main_arg2)
abbrev aKs : FVec Ideal S1x5120x128x8x128 .f32 := m ((c : Thread nD τ).loc main_arg3)
abbrev aVs : FVec Ideal S1x5120x128x8x128 .f32 := m ((c : Thread nD τ).loc main_arg4)
abbrev aL0 : FVec Ideal S1x64 .f32 := m ((c : Thread nD τ).loc main_arg6)
abbrev aL1 : FVec Ideal S1x64 .f32 := m ((c : Thread nD τ).loc main_arg7)
abbrev aL2 : FVec Ideal S1x64 .f32 := m ((c : Thread nD τ).loc main_arg8)
abbrev aL3 : FVec Ideal S1x64 .f32 := m ((c : Thread nD τ).loc main_arg9)
abbrev aN : FVec Ideal S1x128 .f32 := m ((c : Thread nD τ).loc main_arg10)

/-! ## The operands of the call -/

/-- The queries, scaled and narrowed. -/
def scaledQ : FVec Ideal S32x8x128 .bf16 :=
  have x : FVec Ideal S32x1x8x128 .f32 := mulf (aQ m c) (broadcastInDim S32x1x8x128 ![] bcast_S_S32x1x8x128 (constant (F := Ideal) S_ .f32 0x3E000000#32))
  have y : FVec Ideal S32x1x8x128 .bf16 := truncf .bf16 x bitsLt_bf16_f32
  shapeCast S32x8x128 y shapeCasts_S32x1x8x128_S32x8x128

theorem query_apply (b : Fin 32) (h : Fin 8) (d : Fin 128) : (V m c main_v12 : Vec Ideal S32x8x128 .bf16) (ix3 b h d)
    = aQ m c (ix4 b 0 h d) * Ideal.ofBits .f32 0x3E000000#32 := by
  have e : @Eq (Vec Ideal S32x8x128 .bf16) (V m c main_v12) (scaledQ m c) := by
    unfold V
    after_results; rfl
  rw [e]
  pointwise [scaledQ]

theorem own_key_apply (b : Fin 32) (h : Fin 8) (d : Fin 128) : (V m c main_v13 : Vec Ideal S32x8x128 .f32) (ix3 b h d)
    = aK m c (ix4 b 0 h d) := by
  have e : @Eq (Vec Ideal S32x8x128 .f32) (V m c main_v13) (shapeCast S32x8x128 (aK m c) shapeCasts_S32x1x8x128_S32x8x128) := by
    unfold V
    after_results; rfl
  rw [e]
  pointwise

theorem own_value_apply (b : Fin 32) (h : Fin 8) (d : Fin 128) : (V m c main_v14 : Vec Ideal S32x8x128 .f32) (ix3 b h d)
    = aV m c (ix4 b 0 h d) := by
  have e : @Eq (Vec Ideal S32x8x128 .f32) (V m c main_v14) (shapeCast S32x8x128 (aV m c) shapeCasts_S32x1x8x128_S32x8x128) := by
    unfold V
    after_results; rfl
  rw [e]
  pointwise

/-- The four vectors of the difference's factor, stacked. -/
def stacked : FVec Ideal S4x64 .f32 :=
  have row (x : FVec Ideal S1x64 .f32) : FVec Ideal S1x64 .f32 := broadcastInDim S1x64 ![1] bcast_S64_S1x64_1 (shapeCast S64 x shapeCasts_S1x64_S64)
  concatenate S4x64 0 [⟨S1x64, row (aL0 m c)⟩, ⟨S1x64, row (aL1 m c)⟩, ⟨S1x64, row (aL2 m c)⟩, ⟨S1x64, row (aL3 m c)⟩]
    concatenates_S1x64_S1x64_S1x64_S1x64_S4x64_d0

theorem factors_eq : @Eq (Vec Ideal S4x64 .f32) (V m c main_v8) (stacked m c) := by
  unfold V
  after_results; rfl

theorem factor_apply (i : Fin 4) (k : Fin 64) : (V m c main_v8 : Vec Ideal S4x64 .f32) (ix2 i k)
    = (![fun k => aL0 m c (ix2 0 k), fun k => aL1 m c (ix2 0 k), fun k => aL2 m c (ix2 0 k), fun k => aL3 m c (ix2 0 k)] : Fin 4 → Fin 64 → EReal) i k := by
  rw [factors_eq]
  match i with
  | 0 => pointwise [stacked]
  | 1 => pointwise [stacked]
  | 2 => pointwise [stacked]
  | 3 => pointwise [stacked]

theorem gain_apply (d : Fin 128) : (V m c main_v16 : Vec Ideal S1x128 .f32) (ix2 0 d) = aN m c (ix2 0 d) := by
  have e : @Eq (Vec Ideal S1x128 .f32) (V m c main_v16) (broadcastInDim S1x128 ![1] bcast_S128_S1x128_1 (shapeCast S128 (aN m c) shapeCasts_S1x128_S128)) := by
    unfold V
    after_results; rfl
  rw [e]
  pointwise

/-- A cache as the call takes it: column `8 t + h` of a page is head `h` of slot `t`. -/
theorem cache_apply (x : FVec Ideal S1x5120x128x8x128 .f32) (n : Fin 5120) (t : Fin 128) (h : Fin 8) (d : Fin 128) :
    shapeCast S5120x1024x128 x shapeCasts_S1x5120x128x8x128_S5120x1024x128 (ix3 n ⟨8 * t.val + h.val, by omega⟩ d) = x (ix5 0 n t h d) := by
  pointwise

theorem keys_apply (n : Fin 5120) (t : Fin 128) (h : Fin 8) (d : Fin 128) :
    (V m c main_v17 : Vec Ideal S5120x1024x128 .f32) (ix3 n ⟨8 * t.val + h.val, by omega⟩ d) = aKs m c (ix5 0 n t h d) := by
  have e : @Eq (Vec Ideal S5120x1024x128 .f32) (V m c main_v17) (shapeCast S5120x1024x128 (aKs m c) shapeCasts_S1x5120x128x8x128_S5120x1024x128) := by
    unfold V
    after_results; rfl
  rw [e, cache_apply]

theorem values_apply (n : Fin 5120) (t : Fin 128) (h : Fin 8) (d : Fin 128) :
    (V m c main_v18 : Vec Ideal S5120x1024x128 .f32) (ix3 n ⟨8 * t.val + h.val, by omega⟩ d) = aVs m c (ix5 0 n t h d) := by
  have e : @Eq (Vec Ideal S5120x1024x128 .f32) (V m c main_v18) (shapeCast S5120x1024x128 (aVs m c) shapeCasts_S1x5120x128x8x128_S5120x1024x128) := by
    unfold V
    after_results; rfl
  rw [e, cache_apply]

/-! ## The blocks -/

variable (t : Fin (cfgM m hO).N)

/-- The sequence of point `t`, and the block of pages. -/
abbrev seqOf : Fin 32 := grid0.coords t 0
abbrev blockOf : Fin 16 := grid0.coords t 1

theorem seqOf_val : (seqOf m hO t).val = t.val / 16 % 32 := Pipeline.Grid.coords_val (show Fin grid0.N from t) 0 (show grid0.stride 0 = 16 by decide) rfl
theorem blockOf_val : (blockOf m hO t).val = t.val / 1 % 16 := Pipeline.Grid.coords_val (show Fin grid0.N from t) 1 (show grid0.stride 1 = 1 by decide) rfl

theorem word_self (n : Fin 32) : (BitVec.ofNat 32 n.val).toNat = n.val := by
  rw [BitVec.toNat_ofNat]
  omega

theorem row_at {e : EltTy} (x : Vec Ideal S32x8x128 e) (b : Fin 32) (h : Fin 8) (d : Fin 128) (z : S32x8x128.Idx)
    (h0 : (z 0).val = (BitVec.ofNat 32 b.val).toNat * 1 + 1 * 0) (h1 : (z 1).val = 0 * 8 + 1 * h.val) (h2 : (z 2).val = 0 * 128 + 1 * d.val) :
    x z = x (ix3 b h d) := by
  rw [word_self] at h0
  exact congrArg x (funext fun (a : Fin 3) => Fin.ext (match a with
    | 0 => by show (z 0).val = b.val; omega
    | 1 => by show (z 1).val = h.val; omega
    | 2 => by show (z 2).val = d.val; omega))

theorem blk0 (h : Fin 8) (d : Fin 128) : (iblk m hO c 0 t : Vec Ideal S1x8x128 .bf16) (ix3 0 h d)
    = aQ m c (ix4 (seqOf m hO t) 0 h d) * Ideal.ofBits .f32 0x3E000000#32 :=
  (row_at (V m c main_v12) (seqOf m hO t) h d _ rfl rfl rfl).trans (query_apply m c _ h d)

theorem blk1 (h : Fin 8) (d : Fin 128) : (iblk m hO c 1 t : Vec Ideal S1x8x128 .f32) (ix3 0 h d) = aK m c (ix4 (seqOf m hO t) 0 h d) :=
  (row_at (V m c main_v13) (seqOf m hO t) h d _ rfl rfl rfl).trans (own_key_apply m c _ h d)

theorem blk2 (h : Fin 8) (d : Fin 128) : (iblk m hO c 2 t : Vec Ideal S1x8x128 .f32) (ix3 0 h d) = aV m c (ix4 (seqOf m hO t) 0 h d) :=
  (row_at (V m c main_v14) (seqOf m hO t) h d _ rfl rfl rfl).trans (own_value_apply m c _ h d)

theorem flat_at {a b : ℕ} (x : Vec Ideal (Shape.mk 2 ![a, b]) .f32) (i : Fin a) (k : Fin b) (z : (Shape.mk 2 ![a, b]).Idx)
    (h0 : (z 0).val = 0 * a + 1 * i.val) (h1 : (z 1).val = 0 * b + 1 * k.val) : x z = x (ix2 i k) :=
  congrArg x (funext fun (q : Fin 2) => Fin.ext (match q with
    | 0 => by show (z 0).val = i.val; omega
    | 1 => by show (z 1).val = k.val; omega))

theorem blk3 (i : Fin 4) (k : Fin 64) : (iblk m hO c 3 t : Vec Ideal S4x64 .f32) (ix2 i k)
    = (![fun k => aL0 m c (ix2 0 k), fun k => aL1 m c (ix2 0 k), fun k => aL2 m c (ix2 0 k), fun k => aL3 m c (ix2 0 k)] : Fin 4 → Fin 64 → EReal) i k :=
  (flat_at (V m c main_v8) i k _ rfl rfl).trans (factor_apply m c i k)

theorem blk4 (d : Fin 128) : (iblk m hO c 4 t : Vec Ideal S1x128 .f32) (ix2 0 d) = aN m c (ix2 0 d) :=
  (flat_at (V m c main_v16) 0 d _ rfl rfl).trans (gain_apply m c d)

/-- The page that a point's page `p` is. -/
def pageOf (p : Fin 8) : Fin 5120 := ⟨(word (tbl m) (grid0.coords t) p).toNat % 5120, Nat.mod_lt _ (by decide)⟩

theorem page_at (hin : ∀ y, (aT m 0 y).toNat < 5120) (x : Vec Ideal S5120x1024x128 .f32) (p : Fin 8) (u : Fin 1024) (d : Fin 128) (z : S5120x1024x128.Idx)
    (h0 : (z 0).val = (word (tbl m) (grid0.coords t) p).toNat * 1 + 1 * 0) (h1 : (z 1).val = 0 * 1024 + 1 * u.val) (h2 : (z 2).val = 0 * 128 + 1 * d.val) :
    x z = x (ix3 (pageOf m hO t p) u d) := by
  have hw : (word (tbl m) (grid0.coords t) p).toNat < 5120 := by rw [word_eq]; exact hin _
  exact congrArg x (funext fun (a : Fin 3) => Fin.ext (match a with
    | 0 => by show (z 0).val = (word (tbl m) (grid0.coords t) p).toNat % 5120; omega
    | 1 => by show (z 1).val = u.val; omega
    | 2 => by show (z 2).val = d.val; omega))

end Cert.DecodeBlocks

end
-- ==== Proof.DecodeRef.lean ====
module

public import Idealize.ShloMosaic.Lib.Pointwise
public import Idealize.ShloMosaic.Lib.Tactic.WordOmega
public import proofs.«01_k».proof.Proof.DecodeKeys
public import proofs.«01_k».proof.Proof.DecodeStep
public import proofs.«01_k».proof.Proof.Gen.ReferenceIdeal.Read

@[expose] public section

noncomputable section

/-!
# The reference at an index

A result of the reference is the normed difference of two softmaxes over all keys of the sequence: those gathered through
the page table, and the new token's own.
-/

namespace Cert.DecodeRef

open Idealize.ShloMosaic Idealize.ShloMosaic.Pointwise
open Cert.ReferenceIdeal Cert.ReferenceIdeal.Read Cert.DecodeKeys Cert.DecodeStep

section Gather

variable {α : Type} (x : S5120x128x8x128.Idx → α) (idx : IVec S32x128x1 32) (b : Fin 32) (e t : Fin 128) (h : Fin 8) (d : Fin 128)

abbrev dims := gather_S5120x128x8x128_S32x128x1_S32x128x128x8x128_234_0_n_n_0_2_11288128

/-- The gathered page: the table's entry, clamped into the cache. -/
theorem gather_page : Host.gather dims x idx (ix5 b e t h d)
    = x (ix4 ⟨min (idx (ix3 b e 0)).toInt.toNat 5119, by omega⟩ t h d) := by
  unfold Host.gather
  refine congrArg x (funext fun (a : Fin 4) => Fin.ext ?_)
  show GatherDims.start dims (ix5 b e t h d) idx a + GatherDims.batchCoord dims (ix5 b e t h d) a
      + GatherDims.offCoord dims (ix5 b e t h d) a = _
  rw [GatherDims.batchCoord_eq_zero _ _ _ (fun h => by cases h)]
  match a with
  | 0 =>
    rw [GatherDims.offCoord_eq_zero _ _ _ (fun h => ((GatherDims.mem_sKept _ _).mp h).1 (List.mem_singleton.mpr rfl))]
    unfold GatherDims.start
    rw [dif_pos (show (0 : Fin 4) ∈ GatherDims.startIndexMap dims from List.mem_singleton.mpr rfl)]
    have hsi : GatherDims.siIdx dims (ix5 b e t h d) ⟨List.idxOf (0 : Fin 4) (GatherDims.startIndexMap dims),
        List.idxOf_lt_length_iff.2 (List.mem_singleton.mpr rfl)⟩ = ix3 b e 0 := by
      funext c
      refine Fin.ext ?_
      match c with
      | ⟨0, _⟩ => rfl
      | ⟨1, _⟩ => rfl
      | ⟨2, _⟩ => rfl
    rw [hsi]
    rfl
  | 1 =>
    rw [show GatherDims.start dims (ix5 b e t h d) idx 1 = 0 from dif_neg (by decide), Nat.zero_add]
    unfold GatherDims.offCoord
    rw [dif_pos (by decide)]
    rfl
  | 2 =>
    rw [show GatherDims.start dims (ix5 b e t h d) idx 2 = 0 from dif_neg (by decide), Nat.zero_add]
    unfold GatherDims.offCoord
    rw [dif_pos (by decide)]
    rfl
  | 3 =>
    rw [show GatherDims.start dims (ix5 b e t h d) idx 3 = 0 from dif_neg (by decide), Nat.zero_add]
    unfold GatherDims.offCoord
    rw [dif_pos (by decide)]
    rfl

end Gather

/-- The element that key `s` of sequence `b`, head `h`, has in lane `d`: a cached one through the page table, the last
the new token's own. -/
def keyOf (own : FVec Ideal S32x1x8x128 .f32) (cache : FVec Ideal S1x5120x128x8x128 .f32) (pt : IVec S32x128 32)
    (b : Fin 32) (h : Fin 8) (s : Fin 16385) (d : Fin 128) : EReal :=
  Fin.lastCases (motive := fun _ => EReal) (own (ix4 b 0 h d))
    (fun s => cache (ix5 0 ⟨(pt (ix2 b ⟨s.val / 128, by omega⟩)).toNat % 5120, by omega⟩ ⟨s.val % 128, by omega⟩ h d)) s

variable (x0 x1 x2 : FVec Ideal S32x1x8x128 .f32) (x3 x4 : FVec Ideal S1x5120x128x8x128 .f32) (x5 : IVec S32x128 32)
  (hin : ∀ y, (x5 y).toNat < 5120) (b : Fin 32) (h : Fin 8)

include hin in
/-- An entry in the cache's range is taken as it is. -/
theorem entry_eq (e : Fin 128) : min (val_main_v18 (F := Ideal) x5 (ix3 b e 0)).toInt.toNat 5119 = (x5 (ix2 b e)).toNat % 5120 := by
  have hx := hin (ix2 b e)
  rw [val_main_v18_apply, val_main_v17_apply, val_main_v14_apply, val_main_v13_apply, val_main_c_apply, val_main_v16_apply]
  rw [show idx_main_v18 (ix3 b e 0) = ix2 b e from funext fun a => match a with
    | ⟨0, _⟩ => rfl
    | ⟨1, _⟩ => rfl]
  generalize x5 (ix2 b e) = w at hx ⊢
  show min (Scalar.select (IntOp.cmpi .slt w 0#32) (IntOp.addi w 5120#32) w).toInt.toNat 5119 = w.toNat % 5120
  word_omega

include hin in
theorem cached_eq (s : Fin 16384) (d : Fin 128) : val_main_v20 (F := Ideal) x3 x5 (ix4 b s h d)
    = x3 (ix5 0 ⟨(x5 (ix2 b ⟨s.val / 128, by omega⟩)).toNat % 5120, by omega⟩ ⟨s.val % 128, by omega⟩ h d) := by
  have e : idx_main_v20 (ix4 b s h d) = ix5 b ⟨s.val / 128, by omega⟩ ⟨s.val % 128, by omega⟩ h d := funext fun (a : Fin 5) =>
    Fin.ext (match a with
    | 0 => by show (((b.val * 16384 + s.val) * 8 + h.val) * 128 + d.val) / 16777216 = b.val; omega
    | 1 => by show (((b.val * 16384 + s.val) * 8 + h.val) * 128 + d.val) / 131072 % 128 = s.val / 128; omega
    | 2 => by show (((b.val * 16384 + s.val) * 8 + h.val) * 128 + d.val) / 1024 % 128 = s.val % 128; omega
    | 3 => by show (((b.val * 16384 + s.val) * 8 + h.val) * 128 + d.val) / 128 % 8 = h.val; omega
    | 4 => by show (((b.val * 16384 + s.val) * 8 + h.val) * 128 + d.val) % 128 = d.val; omega)
  have hp : (⟨min (val_main_v18 (F := Ideal) x5 (ix3 b ⟨s.val / 128, by omega⟩ 0)).toInt.toNat 5119, by omega⟩ : Fin 5120)
      = ⟨(x5 (ix2 b ⟨s.val / 128, by omega⟩)).toNat % 5120, by omega⟩ := Fin.ext (entry_eq x5 hin b ⟨s.val / 128, by omega⟩)
  rw [val_main_v20_apply, e, val_main_v19, gather_page, val_main_v12_apply, hp]
  generalize (⟨(x5 (ix2 b ⟨s.val / 128, by omega⟩)).toNat % 5120, by omega⟩ : Fin 5120) = p
  generalize (⟨s.val % 128, by omega⟩ : Fin 128) = t
  refine congrArg x3 (funext fun (a : Fin 5) => Fin.ext ?_)
  match a with
  | 0 => rfl
  | 1 => show (((p.val * 128 + t.val) * 8 + h.val) * 128 + d.val) / 131072 % 5120 = p.val; omega
  | 2 => show (((p.val * 128 + t.val) * 8 + h.val) * 128 + d.val) / 1024 % 128 = t.val; omega
  | 3 => show (((p.val * 128 + t.val) * 8 + h.val) * 128 + d.val) / 128 % 8 = h.val; omega
  | 4 => show (((p.val * 128 + t.val) * 8 + h.val) * 128 + d.val) % 128 = d.val; omega

/-- The cached keys, then the new token's own. -/
theorem joined (hc : Shape.Concatenates [S32x16384x8x128, S32x1x8x128] S32x16385x8x128 1) (x : FVec Ideal S32x16384x8x128 .f32) (y : FVec Ideal S32x1x8x128 .f32) (s : Fin 16385) (d : Fin 128) :
    concatenate S32x16385x8x128 1 [⟨S32x16384x8x128, x⟩, ⟨S32x1x8x128, y⟩]
        hc (ix4 b s h d)
      = Fin.lastCases (motive := fun _ => EReal) (y (ix4 b 0 h d)) (fun s => x (ix4 b s h d)) s := by
  induction s using Fin.lastCases with
  | last =>
    rw [Fin.lastCases_last]
    exact concatenate_pair_apply_right 1 x y hc (ix4 b (Fin.last 16384) h d) rfl rfl (ix4 b 0 h d) (fun (a : Fin 4) ha => match a with
      | 0 => rfl
      | 1 => absurd rfl ha
      | 2 => rfl
      | 3 => rfl) (Nat.zero_add 16384)
  | cast s =>
    rw [Fin.lastCases_castSucc]
    exact concatenate_pair_apply_left 1 x y hc (ix4 b s.castSucc h d) rfl (ix4 b s h d) (fun (a : Fin 4) => match a with
      | 0 => rfl
      | 1 => rfl
      | 2 => rfl
      | 3 => rfl)

include hin in
theorem keys_eq (s : Fin 16385) (d : Fin 128) : val_main_v21 (F := Ideal) x1 x3 x5 (ix4 b s h d) = keyOf x1 x3 x5 b h s d := by
  unfold val_main_v21 keyOf
  rw [joined]
  simp only [cached_eq x3 x5 hin]

include hin in
theorem values_eq (s : Fin 16385) (d : Fin 128) : val_main_v31 (F := Ideal) x2 x4 x5 (ix4 b s h d) = keyOf x2 x4 x5 b h s d :=
  keys_eq x2 x4 x5 hin b h s d

/-- Lane `k` of the first or second half of a head. -/
abbrev lane (i : Fin 2) (k : Fin 64) : Fin 128 := ⟨64 * i.val + k.val, by omega⟩

theorem lane_zero (k : Fin 64) : lane 0 k = ⟨k.val, by omega⟩ := Fin.ext (Nat.zero_add _)

theorem lane_one (k : Fin 64) : lane 1 k = ⟨64 + k.val, by omega⟩ := rfl

/-- The starting value of a greatest score. -/
theorem fold_max {ι : Type} [Fintype ι] (f : ι → EReal) :
    Finset.fold max (Ideal.ofBits .f32 4286578688#32) f Finset.univ = Finset.univ.sup f := by
  rw [show Ideal.ofBits .f32 4286578688#32 = ⊥ by simp [Ideal.ofBits, Ideal.ieee]]
  rfl

/-- The score of a key in one half of a head. -/
def keyScore (i : Fin 2) (s : Fin 16385) : EReal :=
  (∑ k, x0 (ix4 b 0 h (lane i k)) * keyOf x1 x3 x5 b h s (lane i k)) * Ideal.ofBits .f32 0x3E000000#32

include hin in
theorem score0_eq (s : Fin 16385) : val_main_v36 (F := Ideal) x0 x1 x3 x5 (ix4 b h 0 s) = keyScore x0 x1 x3 x5 b h 0 s := by
  unfold keyScore
  simp only [← keys_eq x1 x3 x5 hin]
  simp only [lane_zero]
  pointwise [val_main_v36, val_main_v35, val_main_v34, val_main_v33, val_main_v32, val_main_cst_5]

include hin in
theorem score1_eq (s : Fin 16385) : val_main_v51 (F := Ideal) x0 x1 x3 x5 (ix4 b h 0 s) = keyScore x0 x1 x3 x5 b h 1 s := by
  unfold keyScore
  simp only [← keys_eq x1 x3 x5 hin]
  simp only [lane_one]
  pointwise [val_main_v51, val_main_v50, val_main_v49, val_main_v48, val_main_v47, val_main_cst_8]

include hin in
theorem out0_eq (d : Fin 128) : val_main_v46 (F := Ideal) x0 x1 x2 x3 x4 x5 (ix4 b h 0 d)
    = attend (keyScore x0 x1 x3 x5 b h 0) (fun s => keyOf x2 x4 x5 b h s d) := by
  unfold attend
  simp only [← values_eq x2 x4 x5 hin, ← score0_eq x0 x1 x3 x5 hin, ← fold_max]
  pointwise [val_main_v46, val_main_v45, val_main_v44, val_main_v43, val_main_v42, val_main_v41, val_main_v40, val_main_v39,
    val_main_v38, val_main_v37, val_main_cst_6, val_main_cst_7]

include hin in
theorem out1_eq (d : Fin 128) : val_main_v61 (F := Ideal) x0 x1 x2 x3 x4 x5 (ix4 b h 0 d)
    = attend (keyScore x0 x1 x3 x5 b h 1) (fun s => keyOf x2 x4 x5 b h s d) := by
  unfold attend
  simp only [← values_eq x2 x4 x5 hin, ← score1_eq x0 x1 x3 x5 hin, ← fold_max]
  pointwise [val_main_v61, val_main_v60, val_main_v59, val_main_v58, val_main_v57, val_main_v56, val_main_v55, val_main_v54,
    val_main_v53, val_main_v52, val_main_cst_9, val_main_cst_10]

include hin in
/-- The reference's result at an index. -/
theorem result_eq (x6 x7 x8 x9 : FVec Ideal S1x64 .f32) (x10 : FVec Ideal S1x128 .f32) (d : Fin 128) :
    val_main_v83 (F := Ideal) x0 x1 x2 x3 x4 x5 x6 x7 x8 x9 x10 (ix3 b h d)
    = finish (lambdaOf ![fun k => x6 (ix2 0 k), fun k => x7 (ix2 0 k), fun k => x8 (ix2 0 k), fun k => x9 (ix2 0 k)])
        (fun d => attend (keyScore x0 x1 x3 x5 b h 0) (fun s => keyOf x2 x4 x5 b h s d))
        (fun d => attend (keyScore x0 x1 x3 x5 b h 1) (fun s => keyOf x2 x4 x5 b h s d)) (fun d => x10 (ix2 0 d)) d := by
  unfold finish lambdaOf
  simp only [← out0_eq x0 x1 x2 x3 x4 x5 hin, ← out1_eq x0 x1 x2 x3 x4 x5 hin]
  pointwise [val_main_v83, val_main_v82, val_main_v81, val_main_v80, val_main_v79, val_main_v78, val_main_v77, val_main_v76,
    val_main_v75, val_main_v74, val_main_v73, val_main_v72, val_main_v71, val_main_v70, val_main_v69, val_main_v68, val_main_v67,
    val_main_v66, val_main_v65, val_main_v64, val_main_v63, val_main_v62, val_main_v11, val_main_v10, val_main_v9, val_main_v8,
    val_main_v7, val_main_v6, val_main_v5, val_main_v4, val_main_v3, val_main_v2, val_main_v1, val_main_v0, val_main_cst,
    val_main_cst_0, val_main_cst_1, val_main_cst_11, val_main_cst_12, val_main_cst_13, val_main_cst_14]

end Cert.DecodeRef

end
-- ==== Proof.DecodeValue.lean ====
module

public import proofs.«01_k».proof.Proof.DecodeState
public import proofs.«01_k».proof.Proof.DecodeBlocks
public import proofs.«01_k».proof.Proof.DecodeRef

@[expose] public section

set_option maxRecDepth 16384

noncomputable section

/-!
# The decode kernel's results in terms of its arguments

The last point of a sequence writes back the normed difference of the two softmaxes over all of the sequence's keys.
-/

namespace Cert.DecodeValue

open Idealize.ShloMosaic Idealize.ShloMosaic.TcCoe Idealize.ShloMosaic.Tactic Idealize.SL.Sem
open Cert.KernelIdeal Cert.KernelIdeal.Gen Cert.DecodeStep Cert.Online Cert.DecodePages Cert.DecodeBlocks Cert.DecodeState
open Cert.DecodeKeys (keyAt col attend Pages)
open Cert.DecodeRef (keyOf keyScore lane)

/-! ## Rows and halves -/

/-- The half of a head that a row scores. -/
abbrev half (r : Fin 16) : Fin 2 := ⟨r.val / 8, by omega⟩

theorem eighth_eq : Ideal.ofBits .f32 0x3E000000#32 = (((1 : ℝ) / 8 : ℝ) : EReal) := by
  simp [Ideal.ofBits, Ideal.ieee, -EReal.coe_mul]; norm_num

/-- A row's sum over all lanes, the other half's zeroed and each scaled, is the scaled sum over its own half. -/
theorem half_sum (r : Fin 16) (f g : Fin 128 → EReal) :
    ∑ d, (if Keeps r d then f d * Ideal.ofBits .f32 0x3E000000#32 else 0) * g d
      = (∑ k : Fin 64, f (lane (half r) k) * g (lane (half r) k)) * Ideal.ofBits .f32 0x3E000000#32 := by
  have split (F : Fin 128 → EReal) : ∑ d, F d = ∑ i : Fin 2, ∑ k : Fin 64, F (lane i k) := by
    rw [← Fintype.sum_prod_type' (f := fun i k => F (lane i k)), ← (finProdFinEquiv (m := 2) (n := 64)).sum_comp F]
    exact Finset.sum_congr rfl fun x _ => congrArg F (Fin.ext (Nat.add_comm _ _))
  rw [split, Finset.sum_eq_single (half r), mul_comm, eighth_eq, coe_mul_sum _ (by norm_num)]
  · refine Finset.sum_congr rfl fun k _ => ?_
    rw [if_pos (show r.val < 8 ↔ 64 * (r.val / 8) + k.val < 64 by omega), mul_comm (f _), mul_assoc]
  · intro i _ hi
    have hi' : i.val ≠ r.val / 8 := fun e => hi (Fin.ext e)
    refine Finset.sum_eq_zero fun k _ => ?_
    rw [if_neg (show ¬(r.val < 8 ↔ 64 * i.val + k.val < 64) by omega), zero_mul]
  · exact fun e => absurd (Finset.mem_univ _) e

/-! ## A sequence's scores and values -/

variable (m : (ℓ : Loc nD τ sig) → Buf (Elt Ideal) ℓ) (hO : Ok m) (c : Dev nD) (hin : ∀ y, (aT m 0 y).toNat < 5120)

section Sequence

variable (b : Fin 32) (j : Fin 16)

theorem seqOf_point : seqOf m hO (point m hO (16 * b.val + j.val)) = b := by
  apply Fin.ext
  rw [seqOf_val]
  show (16 * b.val + j.val) % 512 / 16 % 32 = b.val
  omega

theorem seqOf_first : seqOf m hO (point m hO (16 * b.val)) = b := seqOf_point m hO b 0

theorem blockOf_point : blockOf m hO (point m hO (16 * b.val + j.val)) = j := by
  apply Fin.ext
  rw [blockOf_val]
  show (16 * b.val + j.val) % 512 / 1 % 16 = j.val
  omega

/-- A page of the point, by the table. -/
theorem pageOf_point (p : Fin 8) : pageOf m hO (point m hO (16 * b.val + j.val)) p
    = ⟨(aT m c (ix2 b ⟨j.val * 8 + p.val, by omega⟩)).toNat % 5120, by omega⟩ := by
  obtain rfl : c = 0 := Subsingleton.elim _ _
  apply Fin.ext
  show (word (tbl m) (grid0.coords (point m hO (16 * b.val + j.val))) p).toNat % 5120 = _
  rw [word_eq]
  have e0 := seqOf_point m hO b j
  have e1 := congrArg Fin.val (blockOf_point m hO b j)
  show (aT m 0 (ix2 (seqOf m hO _) ⟨(blockOf m hO _).val * 8 + p.val, _⟩)).toNat % 5120 = _
  simp only [e0, e1]

set_option maxHeartbeats 4000000 in
include hin in
theorem keys_point (t : Fin (cfgM m hO).N) (p : Fin 8) (u : Fin 1024) (d : Fin 128) : keys m hO c t p (ix3 0 u d)
    = (V m c main_v17 : Vec Ideal S5120x1024x128 .f32) (ix3 (pageOf m hO t p) u d) := by
  match p with
  | 0 => exact page_at m hO t hin (V m c main_v17) 0 u d _ rfl rfl rfl
  | 1 => exact page_at m hO t hin (V m c main_v17) 1 u d _ rfl rfl rfl
  | 2 => exact page_at m hO t hin (V m c main_v17) 2 u d _ rfl rfl rfl
  | 3 => exact page_at m hO t hin (V m c main_v17) 3 u d _ rfl rfl rfl
  | 4 => exact page_at m hO t hin (V m c main_v17) 4 u d _ rfl rfl rfl
  | 5 => exact page_at m hO t hin (V m c main_v17) 5 u d _ rfl rfl rfl
  | 6 => exact page_at m hO t hin (V m c main_v17) 6 u d _ rfl rfl rfl
  | 7 => exact page_at m hO t hin (V m c main_v17) 7 u d _ rfl rfl rfl

set_option maxHeartbeats 4000000 in
include hin in
theorem values_point (t : Fin (cfgM m hO).N) (p : Fin 8) (u : Fin 1024) (d : Fin 128) : values m hO c t p (ix3 0 u d)
    = (V m c main_v18 : Vec Ideal S5120x1024x128 .f32) (ix3 (pageOf m hO t p) u d) := by
  match p with
  | 0 => exact page_at m hO t hin (V m c main_v18) 0 u d _ rfl rfl rfl
  | 1 => exact page_at m hO t hin (V m c main_v18) 1 u d _ rfl rfl rfl
  | 2 => exact page_at m hO t hin (V m c main_v18) 2 u d _ rfl rfl rfl
  | 3 => exact page_at m hO t hin (V m c main_v18) 3 u d _ rfl rfl rfl
  | 4 => exact page_at m hO t hin (V m c main_v18) 4 u d _ rfl rfl rfl
  | 5 => exact page_at m hO t hin (V m c main_v18) 5 u d _ rfl rfl rfl
  | 6 => exact page_at m hO t hin (V m c main_v18) 6 u d _ rfl rfl rfl
  | 7 => exact page_at m hO t hin (V m c main_v18) 7 u d _ rfl rfl rfl

/-- A cached element through the table, at key `1024 j + 128 p + t`. -/
theorem keyOf_page (own : FVec Ideal S32x1x8x128 .f32) (cache : FVec Ideal S1x5120x128x8x128 .f32) (h : Fin 8) (p : Fin 8) (t d : Fin 128) :
    keyOf own cache (aT m c) b h (keyAt j p t).castSucc d = cache (ix5 0 (pageOf m hO (point m hO (16 * b.val + j.val)) p) t h d) := by
  have e0 : (⟨(keyAt j p t).val / 128, by omega⟩ : Fin 128) = ⟨j.val * 8 + p.val, by omega⟩ :=
    Fin.ext (by show (1024 * j.val + 128 * p.val + t.val) / 128 = j.val * 8 + p.val; omega)
  have e1 : (⟨(keyAt j p t).val % 128, by omega⟩ : Fin 128) = t :=
    Fin.ext (by show (1024 * j.val + 128 * p.val + t.val) % 128 = t.val; omega)
  unfold keyOf
  rw [Fin.lastCases_castSucc, pageOf_point m hO c b j p]
  simp only [e0, e1]

variable (r : Fin 16)

theorem queries_apply (t : Fin (cfgM m hO).N) (d : Fin 128) : queries m hO c t (ix2 r d)
    = if Keeps r d then aQ m c (ix4 (seqOf m hO t) 0 (head r) d) * Ideal.ofBits .f32 0x3E000000#32 else 0 :=
  (DecodeStep.query_apply _ r d).trans (if_congr Iff.rfl (blk0 m hO c t (head r) d) rfl)

theorem ownScore_eq : ownScore m hO c b.val r
    = ∑ d, (if Keeps r d then aQ m c (ix4 b 0 (head r) d) * Ideal.ofBits .f32 0x3E000000#32 else 0) * aK m c (ix4 b 0 (head r) d) := by
  refine (first_top_apply (iblk m hO c 0 (point m hO (16 * b.val))) (iblk m hO c 1 (point m hO (16 * b.val))) r).trans
    (Finset.sum_congr rfl fun d _ => congrArg₂ (· * ·)
      (if_congr Iff.rfl ((blk0 m hO c (point m hO (16 * b.val)) (head r) d).trans ?_) rfl) ((blk1 m hO c (point m hO (16 * b.val)) (head r) d).trans ?_))
  · rw [seqOf_first]
  · rw [seqOf_first]

theorem ownValue_eq (d : Fin 128) : ownValue m hO c b.val r d = aV m c (ix4 b 0 (head r) d) := by
  refine (first_acc_apply (iblk m hO c 2 (point m hO (16 * b.val))) r d).trans ((blk2 m hO c (point m hO (16 * b.val)) (head r) d).trans ?_)
  rw [seqOf_first]

include hin in
/-- The row's scores are the keys' scores in the row's half of its head. -/
theorem pages : Pages (keyScore (aQ m c) (aK m c) (aKs m c) (aT m c) b (head r) (half r)) (head r) (ownScore m hO c b.val r)
    (pageScore m hO c b.val r) where
  own_score := by
    unfold keyScore keyOf
    rw [ownScore_eq]
    simp only [half_sum, Fin.lastCases_last]
  score j p t := by
    unfold pageScore score keyScore
    rw [if_pos (show r.val % 8 = (8 * t.val + r.val % 8) % 8 by omega), add_zero]
    simp only [queries_apply, seqOf_point, keys_point m hO c hin, keyOf_page m hO c b j, half_sum]
    exact congrArg (· * _) (Finset.sum_congr rfl fun k _ => congrArg (_ * ·) (keys_apply m c _ t (head r) _))
  masked j p u hu := by
    unfold pageScore score
    rw [if_neg (fun e => hu e.symm), EReal.add_bot]

include hin in
/-- A row's output: one softmax over all the keys. -/
theorem row_eq (d : Fin 128) : Ideal.div
      (wsum (ownScore m hO c b.val r) (ownValue m hO c b.val r d) (pageScore m hO c b.val r) (pageValue m hO c b.val d) 16 (best m hO c b.val r 16))
      (wsum (ownScore m hO c b.val r) 1 (pageScore m hO c b.val r) (fun _ _ => 1) 16 (best m hO c b.val r 16))
    = attend (keyScore (aQ m c) (aK m c) (aKs m c) (aT m c) b (head r) (half r)) (fun s => keyOf (aV m c) (aVs m c) (aT m c) b (head r) s d) := by
  refine Pages.attend_eq _ _ _ (pages m hO c hin b r) ?_ fun j p t => ?_
  · unfold keyOf
    rw [ownValue_eq, Fin.lastCases_last]
  · unfold pageValue
    rw [values_point m hO c hin, keyOf_page m hO c b j, ← values_apply]

end Sequence

/-- The result of sequence `b`, head `h`, lane `d`. -/
def result (b : Fin 32) (h : Fin 8) (d : Fin 128) : EReal :=
  finish (lambdaOf ![fun k => aL0 m c (ix2 0 k), fun k => aL1 m c (ix2 0 k), fun k => aL2 m c (ix2 0 k), fun k => aL3 m c (ix2 0 k)])
    (fun d => attend (keyScore (aQ m c) (aK m c) (aKs m c) (aT m c) b h 0) (fun s => keyOf (aV m c) (aVs m c) (aT m c) b h s d))
    (fun d => attend (keyScore (aQ m c) (aK m c) (aKs m c) (aT m c) b h 1) (fun s => keyOf (aV m c) (aVs m c) (aT m c) b h s d)) (fun d => aN m c (ix2 0 d)) d

theorem finish_congr {p p' : Fin 4 → Fin 64 → EReal} {o1 o1' o2 o2' g g' : Fin 128 → EReal} (hp : p = p') (h1 : o1 = o1') (h2 : o2 = o2')
    (hg : g = g') (d : Fin 128) : finish (lambdaOf p) o1 o2 g d = finish (lambdaOf p') o1' o2' g' d := by
  rw [hp, h1, h2, hg]

include hin in
/-- The last point of a sequence leaves its results. -/
theorem block_eq (b : Fin 32) (hn : 16 * b.val + 15 < (cfgM m hO).N) (h : Fin 8) (d : Fin 128) :
    (outsAt0 m hO c (16 * b.val + 15) hn).1 (ix3 0 h d) = result m c b h d := by
  have H := holds m hO c (16 * b.val + 15) hn
  have eb : (16 * b.val + 15) / 16 = b.val := by omega
  have ej : (16 * b.val + 15) % 16 + 1 = 16 := by omega
  have rows (r : Fin 16) (d : Fin 128) : Ideal.div ((outsAt0 m hO c (16 * b.val + 15) hn).2.2.2 (ix2 r d)) ((outsAt0 m hO c (16 * b.val + 15) hn).2.2.1 (ix2 r 0))
      = attend (keyScore (aQ m c) (aK m c) (aKs m c) (aT m c) b (head r) (half r)) (fun s => keyOf (aV m c) (aVs m c) (aT m c) b (head r) s d) := by
    rw [H.acc, H.sum, eb, ej]
    exact row_eq m hO c hin b r d
  have low : half ⟨h.val, by omega⟩ = 0 := Fin.ext (by show h.val / 8 = 0; omega)
  have high : half ⟨8 + h.val, by omega⟩ = 1 := Fin.ext (by show (8 + h.val) / 8 = 1; omega)
  rw [H.out (by omega)]
  refine (output_apply _ _ _ _ h d).trans (finish_congr (funext fun i => funext fun k => blk3 m hO c _ i k) (funext fun d => ?_)
    (funext fun d => ?_) (funext fun d => blk4 m hO c _ d) d)
  · rw [rows, head_low, low]
  · rw [rows, head_high, high]

end Cert.DecodeValue

end
-- ==== Proof.DecodeClaim.lean ====
module

public import Idealize.ShloMosaic.Lib.Claim
public import Idealize.ShloMosaic.Lib.Pipeline.Value
public import proofs.«01_k».proof.Defs
public import proofs.«01_k».proof.Proof.DecodeBody
public import proofs.«01_k».proof.Proof.DecodeValue

@[expose] public section

set_option maxRecDepth 16384

noncomputable section

/-! # The decode kernel's claims: its frames, and its results against the reference -/

namespace Cert.DecodeClaim

open Idealize.ShloMosaic Idealize.ShloMosaic.TcCoe Idealize.SL.Sem
open Cert.KernelIdeal Cert.KernelIdeal.Gen Cert.DecodePages

/-! ## The run at any values -/

section Frame

variable {F : FTy → Type} [FloatOps F] [Named F] (m : (ℓ : Loc nD τ sig) → Buf (Elt F) ℓ) (ρ : Dev nD → PrngReg)

/-- The arguments of a device end as they began. -/
abbrev Kept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

/-- A buffer outside the pipeline ends as the region found it. -/
theorem kept (hO : Ok m) (r : PUnit × MemSt nD τ sig (Elt F))
    (h : Pipeline.FramePost (Pipeline.pin pcfgs fun _ => adm m hO) (dats m hO) 0 (V m) r) (c : Dev nD) : Kept m r.2 c :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c),
    ((h c).2 main_arg9 (by decide : main_arg9 ∈ Pipeline.restRefs sig spec0)).trans (V_main_arg9 m c),
    ((h c).2 main_arg10 (by decide : main_arg10 ∈ Pipeline.restRefs sig spec0)).trans (V_main_arg10 m c)⟩

theorem frame_any (hO : Ok m) : θ_run defs (onTc (τ := τ) (main (F := F))) ⟨m, fun _ => 0, ρ⟩
    fun r => (∀ c : Dev nD, Kept m r.2 c) ∧ r.2.sem = fun _ => 0 :=
  (θ_run defs _ _).mono (fun r h => ⟨kept m hO r h.1, h.2⟩) (run_main_quiescent m ρ hO)

end Frame

/-- The idealised kernel runs and leaves its arguments alone. -/
theorem frame_ideal : Cert.quiescent_KernelIdeal := fun m ρ hp =>
  frame_any m ρ (ok_of_entries m (entry_lt _ _ _ _ _ _ _ _ _ _ _ (hp 0)))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's pattern is read as minus infinity. -/
theorem preserves : Cert.preserves_Kernel_KernelIdeal :=
  IdealRules.named_const.statement Cert.KernelIdeal.κ "mask" .f32 0xF149F2CA#32 ⊥ rfl

theorem eta (i : S32x8x128.Idx) : i = ix3 (i 0) (i 1) (i 2) := funext fun (a : Fin 3) => match a with
  | 0 => rfl
  | 1 => rfl
  | 2 => rfl

/-! ## The array the call writes -/

section Array

variable (m : (ℓ : Loc nD τ sig) → Buf (Elt Ideal) ℓ) (hO : Ok m) (c : Dev nD) (hin : ∀ y, (aT m 0 y).toNat < 5120)

/-- All the results. -/
def total : Buf (Elt Ideal) ((c : Thread nD τ).loc main_v19) := fun i => DecodeValue.result m c (i 0) (i 1) (i 2)

/-- Where the block of point `t` lies in the array. -/
theorem emb_at (t : Fin (cfgM m hO).N) (h : Fin 8) (d : Fin 128) :
    @Eq S32x8x128.Idx ((((cfgM m hO).win 21).blk t).view.emb (ix3 0 h d : S1x8x128.Idx)) (ix3 (DecodeBlocks.seqOf m hO t) h d) :=
  funext fun (a : Fin 3) => Fin.ext (match a with
    | 0 => by
      show (BitVec.ofNat 32 (DecodeBlocks.seqOf m hO t).val).toNat * 1 + 1 * 0 = (DecodeBlocks.seqOf m hO t).val
      rw [DecodeBlocks.word_self]; omega
    | 1 => by show 0 * 8 + 1 * h.val = h.val; omega
    | 2 => by show 0 * 128 + 1 * d.val = d.val; omega)

include hin in
/-- The last point of a sequence writes back that sequence's results. -/
theorem flushed_eq (t : Fin (cfgM m hO).N) (hf : ((cfgM m hO).win 21).flush t = true) :
    (dats m hO 0 c).flushed 21 t = (((cfgM m hO).win 21).blk t).view.read (Elt Ideal) (total m c) := by
  show ((cfgM m hO).win 21).cut (grid0.coords t) ((dats m hO 0 c).after 21 t) = _
  rw [after0_21]
  have hm : t.val % 16 = 15 := (flush0_21 (adm m hO) t).mp hf
  have hN : t.val < 512 := lt_of_lt_of_eq t.isLt (show (cfgM m hO).N = 512 from N_0)
  obtain ⟨b, hb⟩ : ∃ b : Fin 32, t.val = 16 * b.val + 15 := ⟨⟨t.val / 16, by omega⟩, by show t.val = 16 * (t.val / 16) + 15; omega⟩
  have hs : DecodeBlocks.seqOf m hO t = b := Fin.ext (by rw [DecodeBlocks.seqOf_val]; omega)
  refine funext fun (y : S1x8x128.Idx) => ?_
  obtain ⟨h, d, rfl⟩ : ∃ (h : Fin 8) (d : Fin 128), y = ix3 0 h d :=
    ⟨y 1, y 2, funext fun (a : Fin 3) => match a with
      | 0 => Subsingleton.elim (α := Fin 1) _ _
      | 1 => rfl
      | 2 => rfl⟩
  show (outsAt0 m hO c t.val t.isLt).1 (ix3 0 h d) = total m c ((((cfgM m hO).win 21).blk t).view.emb (ix3 0 h d : S1x8x128.Idx))
  refine Eq.trans ?_ (congrArg (total m c) (emb_at m hO t h d)).symm
  rw [hs]
  obtain ⟨n, hn⟩ := t
  obtain rfl : n = 16 * b.val + 15 := hb
  exact DecodeValue.block_eq m hO c hin b hn _ _

/-- Every result is written back. -/
theorem covered (i : S32x8x128.Idx) : ∃ t : Fin (cfgM m hO).N, ((cfgM m hO).win 21).flush t = true ∧ i ∈ (((cfgM m hO).win 21).blk t).view.set := by
  obtain ⟨b, h, d, rfl⟩ : ∃ (b : Fin 32) (h : Fin 8) (d : Fin 128), i = ix3 b h d := ⟨i 0, i 1, i 2, DecodeClaim.eta i⟩
  have hs : DecodeBlocks.seqOf m hO (DecodeState.point m hO (16 * b.val + 15)) = b := DecodeValue.seqOf_point m hO b 15
  have e := emb_at m hO (DecodeState.point m hO (16 * b.val + 15)) h d
  rw [hs] at e
  refine ⟨DecodeState.point m hO (16 * b.val + 15), (flush0_21 (adm m hO) _).mpr ?_, ?_⟩
  · show (16 * b.val + 15) % 512 % 16 = 15
    omega
  · rw [← e]
    exact View.emb_mem_set _ _

include hin in
theorem final : (dats m hO 0 c).arrAt 21 (cfgM m hO).N = total m c :=
  (dats m hO 0 c).arrAt_eq_of_cover 21 _ (fun t hf => flushed_eq m hO c hin t hf) (covered m hO)

end Array

/-- The decode kernel computes what its reference does. -/
theorem algebraic : Cert.algebraic_KernelIdeal_ReferenceIdeal := by
  intro m ρ m' ρ' hp agree
  have hin : ∀ y, (aT m 0 y).toNat < 5120 := entry_lt _ _ _ _ _ _ _ _ _ _ _ (hp 0)
  refine ⟨fun c => total m c,
    (θ_run defs _ _).mono (fun r h c => ⟨((h c).1 21).trans (final m (ok_of_entries m hin) c hin), kept m (ok_of_entries m hin) r h c⟩)
      (run_main m ρ (ok_of_entries m hin)),
    (θ_run Cert.ReferenceIdeal.defs _ _).mono (fun _ h c => ⟨(h c).1.trans ?_, (h c).2⟩) (Cert.ReferenceIdeal.Value.run (F := Ideal) m' ρ')⟩
  obtain ⟨e0, e1, e2, e3, e4, e5, e6, e7, e8, e9, e10⟩ := agree c
  refine (Cert.ReferenceIdeal.Read.val_main_v83_eq m' c).trans ?_
  rw [e0, e1, e2, e3, e4, e5, e6, e7, e8, e9, e10]
  obtain rfl : c = 0 := Subsingleton.elim _ _
  funext i
  obtain ⟨b, h, d, rfl⟩ : ∃ (b : Fin 32) (h : Fin 8) (d : Fin 128), i = ix3 b h d := ⟨i 0, i 1, i 2, DecodeClaim.eta i⟩
  exact DecodeRef.result_eq _ _ _ _ _ _ hin b h _ _ _ _ _ d

end Cert.DecodeClaim

end
-- ==== Proof.FfnMath.lean ====
module

public import Idealize.ShloMosaic.Lib.Pointwise
public import Idealize.ShloMosaic.Lib.Pipeline.Value
public import proofs.«01_k».proof.Proof.Online

@[expose] public section

noncomputable section

/-! # The feed-forward layer of one row, over the extended reals

A row `x` is normed with a gain `g`, sent through the gate and up halves of one weight, gated, and sent back. The kernels
add the hidden columns 512 at a time with the factor ½ inside each; the references sum over all 5632 and halve the sum. -/

namespace Cert.FfnMath

open Idealize.ShloMosaic

/-- The f32 pattern of one half. -/
abbrev half : EReal := Ideal.ofBits .f32 0x3F000000#32

theorem half_eq : half = (((1 : ℝ) / 2 : ℝ) : EReal) := by
  simp [half, Ideal.ofBits, Ideal.ieee, -EReal.coe_mul]; norm_num

/-- One over the root of a row's mean square (plus 1e-6). -/
def invRms (x : Fin 2048 → EReal) : EReal :=
  Ideal.rsqrt (Ideal.div (∑ k, x k * x k) (Ideal.ofBits .f32 0x45000000#32) + Ideal.ofBits .f32 0x358637BD#32)

/-- The row divided by its root mean square, times the gain. -/
def normed (x g : Fin 2048 → EReal) (k : Fin 2048) : EReal := x k * invRms x * g k

/-- Hidden column `u` of the gate half. -/
def gate (n : Fin 2048 → EReal) (w : Fin 2048 → Fin 11264 → EReal) (u : Fin 5632) : EReal :=
  ∑ k, n k * w k ⟨u.val, by omega⟩

/-- Hidden column `u` of the up half. -/
def up (n : Fin 2048 → EReal) (w : Fin 2048 → Fin 11264 → EReal) (u : Fin 5632) : EReal :=
  ∑ k, n k * w k ⟨5632 + u.val, by omega⟩

/-- What hidden column `u` adds to output column `l` in the kernels: the half is inside. -/
def term (n : Fin 2048 → EReal) (w : Fin 2048 → Fin 11264 → EReal) (o : Fin 5632 → Fin 2048 → EReal) (l : Fin 2048)
    (u : Fin 5632) : EReal :=
  gate n w u * Ideal.logistic (gate n w u) * (half * up n w u) * o u l

/-- The sum of `f` over the indices below `n`. -/
def below (f : Fin 5632 → EReal) (n : ℕ) : EReal := ∑ i ∈ Finset.range n, if h : i < 5632 then f ⟨i, h⟩ else 0

theorem below_zero (f : Fin 5632 → EReal) : below f 0 = 0 := rfl

/-- One block of 512 more. -/
theorem below_block (f : Fin 5632 → EReal) (j : ℕ) (hj : j < 11) :
    below f (512 * (j + 1)) = below f (512 * j) + ∑ k : Fin 512, f ⟨512 * j + k.val, by omega⟩ := by
  unfold below
  rw [Nat.mul_succ, Finset.sum_range_add, Finset.sum_range (n := 512)]
  congr 1
  exact Finset.sum_congr rfl fun k _ => dif_pos (by omega)

theorem below_all (f : Fin 5632 → EReal) : below f (512 * 11) = ∑ u, f u := by
  unfold below
  rw [Finset.sum_range]
  exact Finset.sum_congr rfl fun k _ => dif_pos k.isLt

/-- The layer's row: the stream plus the terms of the first `n` hidden columns. -/
def partialRow (x g : Fin 2048 → EReal) (w : Fin 2048 → Fin 11264 → EReal) (o : Fin 5632 → Fin 2048 → EReal) (n : ℕ)
    (l : Fin 2048) : EReal :=
  x l + below (term (normed x g) w o l) n

/-- The references' row: the half outside, the gate divided out. -/
def row (x g : Fin 2048 → EReal) (w : Fin 2048 → Fin 11264 → EReal) (o : Fin 5632 → Fin 2048 → EReal) (l : Fin 2048) : EReal :=
  x l + half * ∑ u, gate (normed x g) w u * Ideal.logistic (gate (normed x g) w u) * up (normed x g) w u * o u l

theorem partialRow_zero (x g : Fin 2048 → EReal) (w : Fin 2048 → Fin 11264 → EReal) (o : Fin 5632 → Fin 2048 → EReal) :
    partialRow x g w o (512 * 0) = x := by
  funext l
  unfold partialRow
  rw [Nat.mul_zero, below_zero, add_zero]

/-- One grid point's work on a row: the sum so far plus its block of 512 hidden columns. -/
theorem partialRow_step (x g : Fin 2048 → EReal) (w : Fin 2048 → Fin 11264 → EReal) (o : Fin 5632 → Fin 2048 → EReal)
    (j : ℕ) (hj : j < 11) (l : Fin 2048) (a : EReal) (n : Fin 2048 → EReal) (wg wu : Fin 2048 → Fin 512 → EReal) (ob : Fin 512 → EReal)
    (ha : a = partialRow x g w o (512 * j) l) (hn : ∀ k, n k = normed x g k)
    (hg : ∀ k u, wg k u = w k ⟨512 * j + u.val, by omega⟩) (hu : ∀ k u, wu k u = w k ⟨5632 + (512 * j + u.val), by omega⟩)
    (ho : ∀ u, ob u = o ⟨512 * j + u.val, by omega⟩ l) :
    a + ∑ u : Fin 512, (∑ k, n k * wg k u) * Ideal.logistic (∑ k, n k * wg k u) * (half * ∑ k, n k * wu k u) * ob u
      = partialRow x g w o (512 * (j + 1)) l := by
  unfold partialRow at *
  rw [below_block _ j hj, ← add_assoc, ha]
  refine congrArg (x l + below _ (512 * j) + ·) (Finset.sum_congr rfl fun u _ => ?_)
  simp only [hn, hg, hu, ho]
  rfl

theorem move_half (h a b c : EReal) : a * (h * b) * c = h * (a * b * c) := by
  rw [← mul_assoc a, mul_comm a h, mul_assoc h, mul_assoc h]

/-- All 11 blocks make the references' row: the half goes out of a sum of extended reals because it is a real that is not negative. -/
theorem partialRow_all (x g : Fin 2048 → EReal) (w : Fin 2048 → Fin 11264 → EReal) (o : Fin 5632 → Fin 2048 → EReal) :
    partialRow x g w o (512 * 11) = row x g w o := by
  funext l
  unfold partialRow row
  rw [below_all, half_eq, Cert.Online.coe_mul_sum _ (by norm_num), ← half_eq]
  refine congrArg (x l + ·) (Finset.sum_congr rfl fun u _ => ?_)
  unfold term
  exact move_half _ _ _ _

end Cert.FfnMath

end
-- ==== Proof.FfnFinalValue.lean ====
module

public import Idealize.ShloMosaic.Lib.Pointwise
public import Idealize.ShloMosaic.Lib.Pipeline.Value
public import Idealize.ShloMosaic.Lib.StableHlo.Run
public import proofs.«01_k».proof.Proof.FfnMath
public import proofs.«01_k».proof.Proof.Gen.FfnFinalIdeal.Value
public import proofs.«01_k».proof.Proof.Gen.FfnFinalReferenceIdeal.Read

@[expose] public section

noncomputable section

/-! # The feed-forward layer with the final norm: the kernel's 11 accumulated blocks against the whole sum -/

namespace Cert.FfnFinalValue

open Idealize.ShloMosaic Idealize.ShloMosaic.TcCoe Idealize.ShloMosaic.Tactic Idealize.SL.Sem
open Cert.FfnFinalIdeal Cert.FfnFinalIdeal.Gen Cert.FfnMath

/-! ## The payloads at an index -/

theorem pay1_apply (x : Vec Ideal S1024x2048 .f32) (g : Vec Ideal S1x2048 .f32) (r : Fin 1024) (k : Fin 2048) :
    k0_pay1 x g (ix2 r k) = normed (fun k => x (ix2 r k)) (fun k => g (ix2 0 k)) k := by
  unfold normed invRms
  pointwise [k0_pay1]

theorem pay3_apply (x : Vec Ideal S1024x2048 .f32) (g : Vec Ideal S1x2048 .f32) (r : Fin 1024) (k : Fin 2048) :
    k0_pay3 x g (ix2 r k) = normed (fun k => x (ix2 r k)) (fun k => g (ix2 0 k)) k := by
  unfold normed invRms
  pointwise [k0_pay3]

theorem pay2_apply (n : Vec Ideal S1024x2048 .bf16) (wg wu : Vec Ideal S2048x512 .bf16) (a : Vec Ideal S1024x2048 .f32)
    (o : Vec Ideal S512x2048 .bf16) (r : Fin 1024) (l : Fin 2048) :
    k0_pay2 n wg wu a o (ix2 r l) = a (ix2 r l) + ∑ u : Fin 512,
      (∑ k : Fin 2048, n (ix2 r k) * wg (ix2 k u)) * Ideal.logistic (∑ k : Fin 2048, n (ix2 r k) * wg (ix2 k u))
        * (half * ∑ k : Fin 2048, n (ix2 r k) * wu (ix2 k u)) * o (ix2 u l) := by
  pointwise [k0_pay2]

/-! ## What a grid point leaves -/

variable (m : (ℓ : Loc nD τ sig) → Buf (Elt Ideal) ℓ)

theorem hz : (![0, 0] : Fin 2 → Nat) = fun _ => 0 := funext fun a => by fin_cases a <;> rfl

section Cases

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S512x2048 .bf16) (h6 : a6.IsWhole)
  (a7 : Memref sig .tc .vmem S1x2048 .f32) (h7 : a7.IsWhole) (a8 : Memref sig .tc .vmem S1024x2048 .f32) (h8 : a8.IsWhole)
  (a9 : Memref sig .tc .vmem S1024x2048 .bf16) (h9 : a9.IsWhole)
  (x0 : Vec Ideal S1024x2048 .f32) (x1 : Vec Ideal S1x2048 .f32) (x2 x3 : Vec Ideal S2048x512 .bf16)
  (x4 : Vec Ideal S512x2048 .bf16) (x5 : Vec Ideal S1x2048 .f32) (xo : Vec Ideal S1024x2048 .f32)
  (xs : Vec Ideal S1024x2048 .bf16)

/-- The first point of a row block keeps the normed stream. -/
theorem kept_first (hc0 : cond0_0 i) (hc1 : ¬cond0_1 i) :
    sout0_A_0 c i a2 h2 a3 h3 a4 h4 a5 h5 a6 h6 a7 h7 a8 h8 a9 h9 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The first point of a row block starts the sum from the stream. -/
theorem sum_first (hc0 : cond0_0 i) (hc1 : ¬cond0_1 i) :
    out0_A_6 c i a2 h2 a3 h3 a4 h4 a5 h5 a6 h6 a7 h7 a8 h8 a9 h9 hc0 hc1 x0 x1 x2 x3 x4 x5
      = k0_pay2 (k0_pay1 x0 x1) x2 x3 x0 x4 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x2048) hz]
  simp only [View.readCov_unit_zero (S := S1024x2048) _ hz, View.readAt_eq_ld, h2.read_unread, h3.read_unread, h4.read_unread, h5.read_unread,
    h6.read_unread, View.ld_unit_zero (S := S1024x2048) hz, View.ld_unit_zero (S := S1x2048) hz,
    View.ld_unit_zero (S := S2048x512) hz, View.ld_unit_zero (S := S512x2048) hz]

/-- A later point adds its block to the sum the point before left. -/
theorem sum_next (hc0 : ¬cond0_0 i) (hc1 : ¬cond0_1 i) :
    out0_B_6 c i a2 h2 a3 h3 a4 h4 a5 h5 a6 h6 a7 h7 a8 h8 a9 h9 hc0 hc1 x0 x1 x2 x3 x4 x5 xo xs
      = k0_pay2 xs x2 x3 xo x4 := by
  unfold out0_B_6
  rw [View.read_writes_eq_canon _ _ _ (cover0_B_6 c i a2 h2 a3 h3 a4 h4 a5 h5 a6 h6 a7 h7 a8 h8 a9 h9 hc0 hc1 x0 x1 x2 x3 x4 x5 xo xs)]
  unfold kernelRun0_B
  dsimp only
  sl_unfold_words
  rw [View.canon_unit_zero hz]
  simp only [View.readAt_eq_ld, h8.read_unread, h9.read_unread, h4.read_unread, h5.read_unread,
    h6.read_unread, View.ld_unit_zero (S := S1024x2048) hz, View.ld_unit_zero (S := S2048x512) hz,
    View.ld_unit_zero (S := S512x2048) hz]

/-- The last point of a row block adds its block and norms the finished sum. -/
theorem sum_last (hc0 : ¬cond0_0 i) (hc1 : cond0_1 i) :
    out0_C_6 c i a2 h2 a3 h3 a4 h4 a5 h5 a6 h6 a7 h7 a8 h8 a9 h9 hc0 hc1 x0 x1 x2 x3 x4 x5 xo xs
      = k0_pay3 (k0_pay2 xs x2 x3 xo x4) x5 := by
  unfold out0_C_6
  rw [View.read_writes_eq_canon _ _ _ (cover0_C_6 c i a2 h2 a3 h3 a4 h4 a5 h5 a6 h6 a7 h7 a8 h8 a9 h9 hc0 hc1 x0 x1 x2 x3 x4 x5 xo xs)]
  unfold kernelRun0_C
  dsimp only
  sl_unfold_words
  rw [View.canon_cons_unit_zero (S := S1024x2048) hz]
  simp only [View.readCov_unit_zero (S := S1024x2048) _ hz, View.readAt_eq_ld, h8.read_unread, h9.read_unread, h4.read_unread, h5.read_unread,
    h6.read_unread, h7.read_unread, View.ld_unit_zero (S := S1024x2048) hz, View.ld_unit_zero (S := S1x2048) hz,
    View.ld_unit_zero (S := S2048x512) hz, View.ld_unit_zero (S := S512x2048) hz]

end Cases

/-! ## The arguments and the staged blocks -/

/-- The arguments, as arrays of extended reals. -/
abbrev aX (c : Dev nD) : Vec Ideal S32768x2048 .f32 := m ((c : Thread nD τ).loc main_arg0)
abbrev aG (c : Dev nD) : Vec Ideal S1x2048 .f32 := m ((c : Thread nD τ).loc main_arg1)
abbrev aW (c : Dev nD) : Vec Ideal S1x2048x11264 .f32 := m ((c : Thread nD τ).loc main_arg2)
abbrev aO (c : Dev nD) : Vec Ideal S1x5632x2048 .f32 := m ((c : Thread nD τ).loc main_arg3)
abbrev aN (c : Dev nD) : Vec Ideal S2048 .f32 := m ((c : Thread nD τ).loc main_arg4)

abbrev fX (x : Vec Ideal S32768x2048 .f32) (r : Fin 32768) (k : Fin 2048) : EReal := x (ix2 r k)
abbrev fG (g : Vec Ideal S1x2048 .f32) (k : Fin 2048) : EReal := g (ix2 0 k)
abbrev fW (w : Vec Ideal S1x2048x11264 .f32) (k : Fin 2048) (u : Fin 11264) : EReal := w (ix3 0 k u)
abbrev fO (o : Vec Ideal S1x5632x2048 .f32) (u : Fin 5632) (l : Fin 2048) : EReal := o (ix3 0 u l)
abbrev fN (n : Vec Ideal S2048 .f32) (k : Fin 2048) : EReal := n (ix1 k)

/-- The gain as the host reshapes it: the same numbers. -/
theorem gain_apply (c : Dev nD) (k : Fin 2048) : (V m c main_v1 : Vec Ideal S1x2048 .f32) (ix2 0 k) = fG (aG m c) k := by
  have e : @Eq (Vec Ideal S1x2048 .f32) (V m c main_v1)
      (broadcastInDim S1x2048 ![1] bcast_S2048_S1x2048_1 (shapeCast S2048 (aG m c) shapeCasts_S1x2048_S2048)) := by
    unfold V
    after_results <;> rfl
  rw [e]
  pointwise

/-- The last norm's gain. -/
theorem last_gain_apply (c : Dev nD) (k : Fin 2048) : (V m c main_v6 : Vec Ideal S1x2048 .f32) (ix2 0 k) = fN (aN m c) k := by
  have e : @Eq (Vec Ideal S1x2048 .f32) (V m c main_v6) (broadcastInDim S1x2048 ![1] bcast_S2048_S1x2048_1 (aN m c)) := by
    unfold V
    after_results <;> rfl
  rw [e]
  pointwise

/-- The gate and up weight as the host narrows it: at the extended reals, the same numbers. -/
def narrowedW (c : Dev nD) : FVec Ideal S2048x11264 .bf16 :=
  have w : FVec Ideal S2048x11264 .f32 := shapeCast S2048x11264 (aW m c) shapeCasts_S1x2048x11264_S2048x11264
  truncf .bf16 w bitsLt_bf16_f32

theorem weight_apply (c : Dev nD) (k : Fin 2048) (u : Fin 11264) :
    (V m c main_v3 : Vec Ideal S2048x11264 .bf16) (ix2 k u) = fW (aW m c) k u := by
  have e : @Eq (Vec Ideal S2048x11264 .bf16) (V m c main_v3) (narrowedW m c) := by
    unfold V
    after_results <;> rfl
  rw [e]
  pointwise [narrowedW]

/-- The weight back, narrowed the same way. -/
def narrowedO (c : Dev nD) : FVec Ideal S5632x2048 .bf16 :=
  have w : FVec Ideal S5632x2048 .f32 := shapeCast S5632x2048 (aO m c) shapeCasts_S1x5632x2048_S5632x2048
  truncf .bf16 w bitsLt_bf16_f32

theorem back_apply (c : Dev nD) (u : Fin 5632) (l : Fin 2048) :
    (V m c main_v5 : Vec Ideal S5632x2048 .bf16) (ix2 u l) = fO (aO m c) u l := by
  have e : @Eq (Vec Ideal S5632x2048 .bf16) (V m c main_v5) (narrowedO m c) := by
    unfold V
    after_results <;> rfl
  rw [e]
  pointwise [narrowedO]

/-- Which block each window stages at point `t`: row block `t / 11` of the stream, hidden block `t % 11` of the weights. -/
theorem index_facts : ∀ t : Fin cfg0.N,
    (win0_0.index t 0 = t.val / 11 ∧ win0_0.index t 1 = 0) ∧ (win0_1.index t 0 = 0 ∧ win0_1.index t 1 = 0)
      ∧ (win0_2.index t 0 = 0 ∧ win0_2.index t 1 = t.val % 11) ∧ (win0_3.index t 0 = 0 ∧ win0_3.index t 1 = 11 + t.val % 11)
      ∧ (win0_4.index t 0 = t.val % 11 ∧ win0_4.index t 1 = 0) ∧ (win0_5.index t 0 = 0 ∧ win0_5.index t 1 = 0) :=
  (by decide +kernel : ∀ t : Fin grid0.N, _)

theorem point_lt (t : Fin cfg0.N) : t.val < 352 := lt_of_lt_of_eq t.isLt (show cfg0.N = 352 from N_0)

/-- The stream's row that row `r` of grid point `n`'s block is. -/
abbrev rowOf (n : ℕ) (r : Fin 1024) : Fin 32768 := ⟨(1024 * (n / 11) + r.val) % 32768, Nat.mod_lt _ (by decide)⟩

theorem blk0 (c : Dev nD) (t : Fin cfg0.N) (r : Fin 1024) (l : Fin 2048) :
    (iblk m c 0 t : Vec Ideal S1024x2048 .f32) (ix2 r l) = fX (aX m c) (rowOf t.val r) l := by
  obtain ⟨h, -⟩ := index_facts t
  have ht := point_lt t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = (1024 * (t.val / 11) + r.val) % 32768; rw [h.1]; omega
  | ⟨1, _⟩ => show win0_0.index t 1 * 2048 + 1 * l.val = l.val; rw [h.2]; omega

theorem blk1 (c : Dev nD) (t : Fin cfg0.N) (k : Fin 2048) : (iblk m c 1 t : Vec Ideal S1x2048 .f32) (ix2 0 k) = fG (aG m c) k := by
  obtain ⟨-, h, -⟩ := index_facts t
  rw [← gain_apply]
  unfold iblk
  rw [View.read_apply]
  show V m c main_v1 _ = V m c main_v1 _
  congr 1
  funext a
  apply Fin.ext
  match a with
  | ⟨0, _⟩ => show win0_1.index t 0 * 1 + 1 * 0 = 0; rw [h.1]
  | ⟨1, _⟩ => show win0_1.index t 1 * 2048 + 1 * k.val = k.val; rw [h.2]; omega

theorem blk2 (c : Dev nD) (t : Fin cfg0.N) (k : Fin 2048) (u : Fin 512) :
    (iblk m c 2 t : Vec Ideal S2048x512 .bf16) (ix2 k u) = fW (aW m c) k ⟨512 * (t.val % 11) + u.val, by omega⟩ := by
  obtain ⟨-, -, h, -⟩ := index_facts t
  rw [← weight_apply]
  unfold iblk
  rw [View.read_apply]
  show V m c main_v3 _ = V m c main_v3 _
  congr 1
  funext a
  apply Fin.ext
  match a with
  | ⟨0, _⟩ => show win0_2.index t 0 * 2048 + 1 * k.val = k.val; rw [h.1]; omega
  | ⟨1, _⟩ => show win0_2.index t 1 * 512 + 1 * u.val = 512 * (t.val % 11) + u.val; rw [h.2]; omega

theorem blk3 (c : Dev nD) (t : Fin cfg0.N) (k : Fin 2048) (u : Fin 512) :
    (iblk m c 3 t : Vec Ideal S2048x512 .bf16) (ix2 k u) = fW (aW m c) k ⟨5632 + (512 * (t.val % 11) + u.val), by omega⟩ := by
  obtain ⟨-, -, -, h, -⟩ := index_facts t
  rw [← weight_apply]
  unfold iblk
  rw [View.read_apply]
  show V m c main_v3 _ = V m c main_v3 _
  congr 1
  funext a
  apply Fin.ext
  match a with
  | ⟨0, _⟩ => show win0_3.index t 0 * 2048 + 1 * k.val = k.val; rw [h.1]; omega
  | ⟨1, _⟩ => show win0_3.index t 1 * 512 + 1 * u.val = 5632 + (512 * (t.val % 11) + u.val); rw [h.2]; omega

theorem blk4 (c : Dev nD) (t : Fin cfg0.N) (u : Fin 512) (l : Fin 2048) :
    (iblk m c 4 t : Vec Ideal S512x2048 .bf16) (ix2 u l) = fO (aO m c) ⟨512 * (t.val % 11) + u.val, by omega⟩ l := by
  obtain ⟨-, -, -, -, h, -⟩ := index_facts t
  rw [← back_apply]
  unfold iblk
  rw [View.read_apply]
  show V m c main_v5 _ = V m c main_v5 _
  congr 1
  funext a
  apply Fin.ext
  match a with
  | ⟨0, _⟩ => show win0_4.index t 0 * 512 + 1 * u.val = 512 * (t.val % 11) + u.val; rw [h.1]; omega
  | ⟨1, _⟩ => show win0_4.index t 1 * 2048 + 1 * l.val = l.val; rw [h.2]; omega

theorem blk5 (c : Dev nD) (t : Fin cfg0.N) (k : Fin 2048) : (iblk m c 5 t : Vec Ideal S1x2048 .f32) (ix2 0 k) = fN (aN m c) k := by
  obtain ⟨-, -, -, -, -, h⟩ := index_facts t
  rw [← last_gain_apply]
  unfold iblk
  rw [View.read_apply]
  show V m c main_v6 _ = V m c main_v6 _
  congr 1
  funext a
  apply Fin.ext
  match a with
  | ⟨0, _⟩ => show win0_5.index t 0 * 1 + 1 * 0 = 0; rw [h.1]
  | ⟨1, _⟩ => show win0_5.index t 1 * 2048 + 1 * k.val = k.val; rw [h.2]; omega

/-! ## The accumulation -/

/-- Row `r` of the stream after the first `n` hidden columns. -/
abbrev sumRow (c : Dev nD) (r : Fin 32768) (n : ℕ) : Fin 2048 → EReal :=
  partialRow (fX (aX m c) r) (fG (aG m c)) (fW (aW m c)) (fO (aO m c)) n

/-- What the two kept buffers hold after grid point `n`: the normed rows, and the sums so far (normed once they are finished). -/
structure Holds (c : Dev nD) (n : ℕ) (s : Vec Ideal S1024x2048 .f32 × Vec Ideal S1024x2048 .bf16) : Prop where
  kept : ∀ r k, s.2 (ix2 r k) = normed (fX (aX m c) (rowOf n r)) (fG (aG m c)) k
  sums : n % 11 ≠ 10 → ∀ r l, s.1 (ix2 r l) = sumRow m c (rowOf n r) (512 * (n % 11 + 1)) l
  done : n % 11 = 10 → ∀ r l, s.1 (ix2 r l) = normed (sumRow m c (rowOf n r) (512 * 11)) (fN (aN m c)) l

theorem block_sum (c : Dev nD) (t : Fin cfg0.N) (n : Vec Ideal S1024x2048 .bf16) (a : Vec Ideal S1024x2048 .f32)
    (r : Fin 1024) (l : Fin 2048) (hn : ∀ k, n (ix2 r k) = normed (fX (aX m c) (rowOf t.val r)) (fG (aG m c)) k)
    (ha : a (ix2 r l) = sumRow m c (rowOf t.val r) (512 * (t.val % 11)) l) :
    k0_pay2 n (iblk m c 2 t) (iblk m c 3 t) a (iblk m c 4 t) (ix2 r l) = sumRow m c (rowOf t.val r) (512 * (t.val % 11 + 1)) l := by
  rw [pay2_apply]
  exact partialRow_step _ _ _ _ (t.val % 11) (Nat.mod_lt _ (by decide)) l _ (fun k => n (ix2 r k)) (fun k u => (iblk m c 2 t : Vec Ideal S2048x512 .bf16) (ix2 k u))
    (fun k u => (iblk m c 3 t : Vec Ideal S2048x512 .bf16) (ix2 k u)) (fun u => (iblk m c 4 t : Vec Ideal S512x2048 .bf16) (ix2 u l)) ha hn
    (blk2 m c t) (blk3 m c t) (fun u => blk4 m c t u l)

theorem normed_block (c : Dev nD) (t : Fin cfg0.N) (r : Fin 1024) (k : Fin 2048) :
    k0_pay1 (F := Ideal) (iblk m c 0 t) (iblk m c 1 t) (ix2 r k) = normed (fX (aX m c) (rowOf t.val r)) (fG (aG m c)) k := by
  rw [pay1_apply]
  exact congrFun (congrArg₂ normed (funext fun k => blk0 m c t r k) (funext fun k => blk1 m c t k)) k

theorem holds_first (c : Dev nD) (t : Fin cfg0.N) (acc) (h0 : t.val % 11 = 0) : Holds m c t.val (Value.stAt0 m c t.val t.isLt acc) := by
  have h1 : ¬t.val % 11 = 10 := by omega
  rw [Value.stAt0_A m c t acc h0 h1, kept_first, sum_first]
  refine ⟨normed_block m c t, fun _ r l => block_sum m c t _ _ r l (normed_block m c t r) ?_, fun h => absurd h h1⟩
  rw [h0]
  exact (blk0 m c t r l).trans (congrFun (partialRow_zero _ _ _ _) l).symm

theorem holds_next (c : Dev nD) (n : ℕ) (hn : n + 1 < cfg0.N) (acc) (h0 : ¬(n + 1) % 11 = 0) (ih : Holds m c n acc) :
    Holds m c (n + 1) (Value.stAt0 m c (n + 1) hn acc) := by
  have e : (n + 1) / 11 = n / 11 := by omega
  have e' : n % 11 + 1 = (n + 1) % 11 := by omega
  have row : ∀ r, rowOf n r = rowOf (n + 1) r := fun r =>
    Fin.ext (by show (1024 * (n / 11) + r.val) % 32768 = (1024 * ((n + 1) / 11) + r.val) % 32768; rw [e])
  have hk : ∀ r k, acc.2 (ix2 r k) = normed (fX (aX m c) (rowOf (n + 1) r)) (fG (aG m c)) k := fun r k => by rw [← row]; exact ih.kept r k
  have hs : ∀ r l, acc.1 (ix2 r l) = sumRow m c (rowOf (n + 1) r) (512 * ((n + 1) % 11)) l := fun r l => by
    rw [← row, ← e']; exact ih.sums (by omega) r l
  have block := fun r l => block_sum m c ⟨n + 1, hn⟩ acc.2 acc.1 r l (hk r) (hs r l)
  by_cases h1 : (n + 1) % 11 = 10
  · rw [Value.stAt0_C m c ⟨n + 1, hn⟩ acc h0 h1, sum_last]
    refine ⟨hk, fun h => absurd h1 h, fun _ r l => ?_⟩
    dsimp only
    rw [pay3_apply]
    refine congrFun (congrArg₂ normed (funext fun k => ?_) (funext fun k => blk5 m c _ k)) l
    rw [block r k, show (512 * 11 : ℕ) = 512 * ((n + 1) % 11 + 1) by omega]
  · rw [Value.stAt0_B m c ⟨n + 1, hn⟩ acc h0 h1, sum_next]
    exact ⟨hk, fun _ r l => block r l, fun h => absurd h h1⟩

theorem holds (c : Dev nD) : ∀ (n : ℕ) (hn : n < cfg0.N), Holds m c n (outsAt0 m c n hn)
  | 0, hn => by rw [Value.outsAt0_zero]; exact holds_first m c ⟨0, hn⟩ _ rfl
  | n + 1, hn => by
    rw [Value.outsAt0_succ]
    by_cases h0 : (n + 1) % 11 = 0
    · exact holds_first m c ⟨n + 1, hn⟩ _ h0
    · exact holds_next m c n hn _ h0 (holds c n _)

/-- The kernel's output array: every row of the stream sent through the layer and the last norm. -/
theorem final_apply (c : Dev nD) (r : Fin 32768) (l : Fin 2048) :
    (Value.G6 m c : Vec Ideal S32768x2048 .f32) (ix2 r l)
      = normed (row (fX (aX m c) r) (fG (aG m c)) (fW (aW m c)) (fO (aO m c))) (fN (aN m c)) l := by
  have hp : Value.pt6Of (ix2 r l) = 11 * (r.val / 1024) + 10 := by
    show 11 * (1 * (r.val / 1024 - 0) + 1 * (l.val / 2048 - 0)) + 10 = _
    omega
  have hN : Value.pt6Of (ix2 r l) < cfg0.N := by rw [hp]; exact lt_of_lt_of_eq (by omega) N_0.symm
  have hl : Value.loc6Of (ix2 r l) = ix2 ⟨r.val % 1024, by omega⟩ l := by
    funext a
    apply Fin.ext
    match a with
    | ⟨0, _⟩ => rfl
    | ⟨1, _⟩ => exact Nat.mod_eq_of_lt l.isLt
  unfold Value.G6
  rw [dif_pos hN, ← Value.outsAt0_sweep m c _ hN, hl, (holds m c _ hN).done (by rw [hp]; omega), sumRow, partialRow_all]
  have hr : rowOf (Value.pt6Of (ix2 r l)) ⟨r.val % 1024, by omega⟩ = r := by
    apply Fin.ext
    show (1024 * (Value.pt6Of (ix2 r l) / 11) + r.val % 1024) % 32768 = r.val
    rw [hp]
    omega
  rw [hr]

/-! ## The reference -/

section Reference

open Cert.FfnFinalReferenceIdeal.Read

variable (x : Vec Ideal S32768x2048 .f32) (g : Vec Ideal S1x2048 .f32) (w : Vec Ideal S1x2048x11264 .f32)
  (o : Vec Ideal S1x5632x2048 .f32) (n : Vec Ideal S2048 .f32)

theorem reference_normed (r : Fin 32768) (k : Fin 2048) : val_main_v15 (F := Ideal) x g (ix2 r k) = normed (fX x r) (fG g) k := by
  unfold normed invRms
  pointwise [val_main_v15, val_main_v14, val_main_v13, val_main_v12, val_main_v11, val_main_v10, val_main_v9, val_main_v8, val_main_cst_1,
    val_main_v7, val_main_v6, val_main_cst_0, val_main_v5, val_main_v4, val_main_cst, val_main_v3, val_main_v0]

theorem reference_hidden (r : Fin 32768) (u : Fin 11264) :
    val_main_v16 (F := Ideal) x g w (ix2 r u) = ∑ k, normed (fX x r) (fG g) k * fW w k u := by
  rw [val_main_v16_apply]
  refine Finset.sum_congr rfl fun k _ => congrArg₂ (· * ·) ?_ ?_
  · rw [← reference_normed]
    exact congrArg _ (eq_ix2 _)
  · rw [show ridx_main_v16 (ix2 r u) k = ix2 k u from eq_ix2 _]
    pointwise [val_main_v1]

theorem reference_gate (r : Fin 32768) (u : Fin 5632) :
    val_main_v17 (F := Ideal) x g w (ix2 r u) = gate (normed (fX x r) (fG g)) (fW w) u := by
  unfold gate
  rw [← reference_hidden, val_main_v17_apply]
  exact congrArg _ (funext fun a => Fin.ext (by match a with | ⟨0, _⟩ => rfl | ⟨1, _⟩ => rfl))

theorem reference_up (r : Fin 32768) (u : Fin 5632) :
    val_main_v18 (F := Ideal) x g w (ix2 r u) = up (normed (fX x r) (fG g)) (fW w) u := by
  unfold up
  rw [← reference_hidden, val_main_v18_apply]
  exact congrArg _ (funext fun a => Fin.ext (by match a with | ⟨0, _⟩ => rfl | ⟨1, _⟩ => rfl))

theorem reference_act (r : Fin 32768) (u : Fin 5632) :
    val_main_v20 (F := Ideal) x g w (ix2 r u)
      = gate (normed (fX x r) (fG g)) (fW w) u * Ideal.logistic (gate (normed (fX x r) (fG g)) (fW w) u)
        * up (normed (fX x r) (fG g)) (fW w) u := by
  rw [← reference_gate, ← reference_up]
  unfold Ideal.logistic
  pointwise [val_main_v20, val_main_v19, val_main_call0_v5, val_main_call0_v4, val_main_call0_cst_0, val_main_call0_v3, val_main_call0_v2,
    val_main_call0_cst, val_main_call0_v1, val_main_call0_v0]

theorem reference_row (r : Fin 32768) (l : Fin 2048) :
    val_main_v24 (F := Ideal) x g w o (ix2 r l) = row (fX x r) (fG g) (fW w) (fO o) l := by
  unfold row
  simp only [← reference_act]
  have e : val_main_v21 (F := Ideal) x g w o (ix2 r l) = ∑ u, val_main_v20 (F := Ideal) x g w (ix2 r u) * fO o u l := by
    rw [val_main_v21_apply]
    refine Finset.sum_congr rfl fun u _ => congrArg₂ (· * ·) (congrArg _ (eq_ix2 _)) ?_
    rw [show ridx_main_v21 (ix2 r l) u = ix2 u l from eq_ix2 _]
    pointwise [val_main_v2]
  rw [← e]
  pointwise [val_main_v24, val_main_v23, val_main_v22, val_main_cst_2]

theorem reference_eq (r : Fin 32768) (l : Fin 2048) :
    val_main_v37 (F := Ideal) x g w o n (ix2 r l) = normed (row (fX x r) (fG g) (fW w) (fO o)) (fN n) l := by
  rw [← funext (reference_row x g w o r)]
  unfold normed invRms
  pointwise [val_main_v37, val_main_v36, val_main_v35, val_main_v34, val_main_v33, val_main_v32, val_main_v31, val_main_v30, val_main_cst_5,
    val_main_v29, val_main_v28, val_main_cst_4, val_main_v27, val_main_v26, val_main_cst_3, val_main_v25]

end Reference

/-- The kernel's output array is the reference's result of the same arguments. -/
theorem total_eq (c : Dev nD) :
    Value.G6 m c = Cert.FfnFinalReferenceIdeal.Read.val_main_v37 (F := Ideal) (aX m c) (aG m c) (aW m c) (aO m c) (aN m c) := by
  funext i
  obtain ⟨r, l, rfl⟩ : ∃ (r : Fin 32768) (l : Fin 2048), i = ix2 r l := ⟨i 0, i 1, eq_ix2 i⟩
  exact (final_apply m c r l).trans (reference_eq _ _ _ _ _ r l).symm

end Cert.FfnFinalValue

end
-- ==== Proof.FfnMidValue.lean ====
module

public import Idealize.ShloMosaic.Lib.Pointwise
public import Idealize.ShloMosaic.Lib.Pipeline.Value
public import Idealize.ShloMosaic.Lib.StableHlo.Run
public import proofs.«01_k».proof.Proof.FfnFinalValue
public import proofs.«01_k».proof.Proof.Gen.FfnMidIdeal.Value
public import proofs.«01_k».proof.Proof.Gen.FfnMidReferenceIdeal.Read

@[expose] public section

noncomputable section

/-! # The first feed-forward layer: the kernel's 11 accumulated blocks against the whole sum

The payloads and the reference's row are those of the other feed-forward layer, which norms the finished row once more;
what is said here anew is what this program's own grid points and windows do. -/

namespace Cert.FfnMidValue

open Idealize.ShloMosaic Idealize.ShloMosaic.TcCoe Idealize.ShloMosaic.Tactic Idealize.SL.Sem
open Cert.FfnMidIdeal Cert.FfnMidIdeal.Gen Cert.FfnMath
open Cert.FfnFinalValue (fX fG fW fO hz rowOf)

/-! ## The payloads at an index -/

theorem pay1_apply (x : Vec Ideal S1024x2048 .f32) (g : Vec Ideal S1x2048 .f32) (r : Fin 1024) (k : Fin 2048) :
    k0_pay1 x g (ix2 r k) = normed (fun k => x (ix2 r k)) (fun k => g (ix2 0 k)) k :=
  Cert.FfnFinalValue.pay1_apply x g r k

theorem pay2_apply (n : Vec Ideal S1024x2048 .bf16) (wg wu : Vec Ideal S2048x512 .bf16) (a : Vec Ideal S1024x2048 .f32)
    (o : Vec Ideal S512x2048 .bf16) (r : Fin 1024) (l : Fin 2048) :
    k0_pay2 n wg wu a o (ix2 r l) = a (ix2 r l) + ∑ u : Fin 512,
      (∑ k : Fin 2048, n (ix2 r k) * wg (ix2 k u)) * Ideal.logistic (∑ k : Fin 2048, n (ix2 r k) * wg (ix2 k u))
        * (half * ∑ k : Fin 2048, n (ix2 r k) * wu (ix2 k u)) * o (ix2 u l) :=
  Cert.FfnFinalValue.pay2_apply n wg wu a o r l

/-! ## What a grid point leaves -/

variable (m : (ℓ : Loc nD τ sig) → Buf (Elt Ideal) ℓ)

section Cases

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S512x2048 .bf16) (h6 : a6.IsWhole)
  (a7 : Memref sig .tc .vmem S1x2048 .f32) (h7 : a7.IsWhole) (a8 : Memref sig .tc .vmem S1024x2048 .f32) (h8 : a8.IsWhole)
  (a9 : Memref sig .tc .vmem S1024x2048 .bf16) (h9 : a9.IsWhole)
  (x0 : Vec Ideal S1024x2048 .f32) (x1 : Vec Ideal S1x2048 .f32) (x2 x3 : Vec Ideal S2048x512 .bf16)
  (x4 : Vec Ideal S512x2048 .bf16) (x5 : Vec Ideal S1x2048 .f32) (xo : Vec Ideal S1024x2048 .f32)
  (xs : Vec Ideal S1024x2048 .bf16)

/-- The first point of a row block keeps the normed stream. -/
theorem kept_first (hc0 : cond0_0 i) :
    sout0_A_0 c i a2 h2 a3 h3 a4 h4 a5 h5 a6 h6 a7 h7 a8 h8 a9 h9 hc0 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 x0 x1 x2 x3 x4 x5)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The first point of a row block starts the sum from the stream. -/
theorem sum_first (hc0 : cond0_0 i) :
    out0_A_6 c i a2 h2 a3 h3 a4 h4 a5 h5 a6 h6 a7 h7 a8 h8 a9 h9 hc0 x0 x1 x2 x3 x4 x5
      = k0_pay2 (k0_pay1 x0 x1) x2 x3 x0 x4 := by
  unfold out0_A_6
  rw [View.read_writes_eq_canon _ _ _ (cover0_A_6 c i a2 h2 a3 h3 a4 h4 a5 h5 a6 h6 a7 h7 a8 h8 a9 h9 hc0 x0 x1 x2 x3 x4 x5)]
  unfold kernelRun0_A
  dsimp only
  sl_unfold_words
  rw [View.canon_cons_unit_zero (S := S1024x2048) hz]
  simp only [View.readCov_unit_zero (S := S1024x2048) _ hz, View.readAt_eq_ld, h2.read_unread, h3.read_unread, h4.read_unread, h5.read_unread,
    h6.read_unread, View.ld_unit_zero (S := S1024x2048) hz, View.ld_unit_zero (S := S1x2048) hz,
    View.ld_unit_zero (S := S2048x512) hz, View.ld_unit_zero (S := S512x2048) hz]

/-- A later point adds its block to the sum the point before left. -/
theorem sum_next (hc0 : ¬cond0_0 i) :
    out0_B_6 c i a2 h2 a3 h3 a4 h4 a5 h5 a6 h6 a7 h7 a8 h8 a9 h9 hc0 x0 x1 x2 x3 x4 x5 xo xs
      = k0_pay2 xs x2 x3 xo x4 := by
  unfold out0_B_6
  rw [View.read_writes_eq_canon _ _ _ (cover0_B_6 c i a2 h2 a3 h3 a4 h4 a5 h5 a6 h6 a7 h7 a8 h8 a9 h9 hc0 x0 x1 x2 x3 x4 x5 xo xs)]
  unfold kernelRun0_B
  dsimp only
  sl_unfold_words
  rw [View.canon_unit_zero hz]
  simp only [View.readAt_eq_ld, h8.read_unread, h9.read_unread, h4.read_unread, h5.read_unread,
    h6.read_unread, View.ld_unit_zero (S := S1024x2048) hz, View.ld_unit_zero (S := S2048x512) hz,
    View.ld_unit_zero (S := S512x2048) hz]

end Cases

/-! ## The arguments and the staged blocks -/

/-- The arguments, as arrays of extended reals. -/
abbrev aX (c : Dev nD) : Vec Ideal S32768x2048 .f32 := m ((c : Thread nD τ).loc main_arg0)
abbrev aG (c : Dev nD) : Vec Ideal S1x2048 .f32 := m ((c : Thread nD τ).loc main_arg1)
abbrev aW (c : Dev nD) : Vec Ideal S1x2048x11264 .f32 := m ((c : Thread nD τ).loc main_arg2)
abbrev aO (c : Dev nD) : Vec Ideal S1x5632x2048 .f32 := m ((c : Thread nD τ).loc main_arg3)

/-- The gain as the host reshapes it: the same numbers. -/
theorem gain_apply (c : Dev nD) (k : Fin 2048) : (V m c main_v1 : Vec Ideal S1x2048 .f32) (ix2 0 k) = fG (aG m c) k := by
  have e : @Eq (Vec Ideal S1x2048 .f32) (V m c main_v1)
      (broadcastInDim S1x2048 ![1] bcast_S2048_S1x2048_1 (shapeCast S2048 (aG m c) shapeCasts_S1x2048_S2048)) := by
    unfold V
    after_results <;> rfl
  rw [e]
  pointwise

/-- The gate and up weight as the host narrows it: at the extended reals, the same numbers. -/
def narrowedW (c : Dev nD) : FVec Ideal S2048x11264 .bf16 :=
  have w : FVec Ideal S2048x11264 .f32 := shapeCast S2048x11264 (aW m c) shapeCasts_S1x2048x11264_S2048x11264
  truncf .bf16 w bitsLt_bf16_f32

theorem weight_apply (c : Dev nD) (k : Fin 2048) (u : Fin 11264) :
    (V m c main_v3 : Vec Ideal S2048x11264 .bf16) (ix2 k u) = fW (aW m c) k u := by
  have e : @Eq (Vec Ideal S2048x11264 .bf16) (V m c main_v3) (narrowedW m c) := by
    unfold V
    after_results <;> rfl
  rw [e]
  pointwise [narrowedW]

/-- The weight back, narrowed the same way. -/
def narrowedO (c : Dev nD) : FVec Ideal S5632x2048 .bf16 :=
  have w : FVec Ideal S5632x2048 .f32 := shapeCast S5632x2048 (aO m c) shapeCasts_S1x5632x2048_S5632x2048
  truncf .bf16 w bitsLt_bf16_f32

theorem back_apply (c : Dev nD) (u : Fin 5632) (l : Fin 2048) :
    (V m c main_v5 : Vec Ideal S5632x2048 .bf16) (ix2 u l) = fO (aO m c) u l := by
  have e : @Eq (Vec Ideal S5632x2048 .bf16) (V m c main_v5) (narrowedO m c) := by
    unfold V
    after_results <;> rfl
  rw [e]
  pointwise [narrowedO]

/-- Which block each window stages at point `t`: row block `t / 11` of the stream, hidden block `t % 11` of the weights. -/
theorem index_facts : ∀ t : Fin cfg0.N,
    (win0_0.index t 0 = t.val / 11 ∧ win0_0.index t 1 = 0) ∧ (win0_1.index t 0 = 0 ∧ win0_1.index t 1 = 0)
      ∧ (win0_2.index t 0 = 0 ∧ win0_2.index t 1 = t.val % 11) ∧ (win0_3.index t 0 = 0 ∧ win0_3.index t 1 = 11 + t.val % 11)
      ∧ (win0_4.index t 0 = t.val % 11 ∧ win0_4.index t 1 = 0) :=
  (by decide +kernel : ∀ t : Fin grid0.N, _)

theorem point_lt (t : Fin cfg0.N) : t.val < 352 := lt_of_lt_of_eq t.isLt (show cfg0.N = 352 from N_0)

theorem blk0 (c : Dev nD) (t : Fin cfg0.N) (r : Fin 1024) (l : Fin 2048) :
    (iblk m c 0 t : Vec Ideal S1024x2048 .f32) (ix2 r l) = fX (aX m c) (rowOf t.val r) l := by
  obtain ⟨h, -⟩ := index_facts t
  have ht := point_lt t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = (1024 * (t.val / 11) + r.val) % 32768; rw [h.1]; omega
  | ⟨1, _⟩ => show win0_0.index t 1 * 2048 + 1 * l.val = l.val; rw [h.2]; omega

theorem blk1 (c : Dev nD) (t : Fin cfg0.N) (k : Fin 2048) : (iblk m c 1 t : Vec Ideal S1x2048 .f32) (ix2 0 k) = fG (aG m c) k := by
  obtain ⟨-, h, -⟩ := index_facts t
  rw [← gain_apply]
  unfold iblk
  rw [View.read_apply]
  show V m c main_v1 _ = V m c main_v1 _
  congr 1
  funext a
  apply Fin.ext
  match a with
  | ⟨0, _⟩ => show win0_1.index t 0 * 1 + 1 * 0 = 0; rw [h.1]
  | ⟨1, _⟩ => show win0_1.index t 1 * 2048 + 1 * k.val = k.val; rw [h.2]; omega

theorem blk2 (c : Dev nD) (t : Fin cfg0.N) (k : Fin 2048) (u : Fin 512) :
    (iblk m c 2 t : Vec Ideal S2048x512 .bf16) (ix2 k u) = fW (aW m c) k ⟨512 * (t.val % 11) + u.val, by omega⟩ := by
  obtain ⟨-, -, h, -⟩ := index_facts t
  rw [← weight_apply]
  unfold iblk
  rw [View.read_apply]
  show V m c main_v3 _ = V m c main_v3 _
  congr 1
  funext a
  apply Fin.ext
  match a with
  | ⟨0, _⟩ => show win0_2.index t 0 * 2048 + 1 * k.val = k.val; rw [h.1]; omega
  | ⟨1, _⟩ => show win0_2.index t 1 * 512 + 1 * u.val = 512 * (t.val % 11) + u.val; rw [h.2]; omega

theorem blk3 (c : Dev nD) (t : Fin cfg0.N) (k : Fin 2048) (u : Fin 512) :
    (iblk m c 3 t : Vec Ideal S2048x512 .bf16) (ix2 k u) = fW (aW m c) k ⟨5632 + (512 * (t.val % 11) + u.val), by omega⟩ := by
  obtain ⟨-, -, -, h, -⟩ := index_facts t
  rw [← weight_apply]
  unfold iblk
  rw [View.read_apply]
  show V m c main_v3 _ = V m c main_v3 _
  congr 1
  funext a
  apply Fin.ext
  match a with
  | ⟨0, _⟩ => show win0_3.index t 0 * 2048 + 1 * k.val = k.val; rw [h.1]; omega
  | ⟨1, _⟩ => show win0_3.index t 1 * 512 + 1 * u.val = 5632 + (512 * (t.val % 11) + u.val); rw [h.2]; omega

theorem blk4 (c : Dev nD) (t : Fin cfg0.N) (u : Fin 512) (l : Fin 2048) :
    (iblk m c 4 t : Vec Ideal S512x2048 .bf16) (ix2 u l) = fO (aO m c) ⟨512 * (t.val % 11) + u.val, by omega⟩ l := by
  obtain ⟨-, -, -, -, h⟩ := index_facts t
  rw [← back_apply]
  unfold iblk
  rw [View.read_apply]
  show V m c main_v5 _ = V m c main_v5 _
  congr 1
  funext a
  apply Fin.ext
  match a with
  | ⟨0, _⟩ => show win0_4.index t 0 * 512 + 1 * u.val = 512 * (t.val % 11) + u.val; rw [h.1]; omega
  | ⟨1, _⟩ => show win0_4.index t 1 * 2048 + 1 * l.val = l.val; rw [h.2]; omega

/-! ## The accumulation -/

/-- Row `r` of the stream after the first `n` hidden columns. -/
abbrev sumRow (c : Dev nD) (r : Fin 32768) (n : ℕ) : Fin 2048 → EReal :=
  partialRow (fX (aX m c) r) (fG (aG m c)) (fW (aW m c)) (fO (aO m c)) n

/-- What the two kept buffers hold after grid point `n`: the normed rows, and the sums so far. -/
structure Holds (c : Dev nD) (n : ℕ) (s : Vec Ideal S1024x2048 .f32 × Vec Ideal S1024x2048 .bf16) : Prop where
  kept : ∀ r k, s.2 (ix2 r k) = normed (fX (aX m c) (rowOf n r)) (fG (aG m c)) k
  sums : ∀ r l, s.1 (ix2 r l) = sumRow m c (rowOf n r) (512 * (n % 11 + 1)) l

theorem block_sum (c : Dev nD) (t : Fin cfg0.N) (n : Vec Ideal S1024x2048 .bf16) (a : Vec Ideal S1024x2048 .f32)
    (r : Fin 1024) (l : Fin 2048) (hn : ∀ k, n (ix2 r k) = normed (fX (aX m c) (rowOf t.val r)) (fG (aG m c)) k)
    (ha : a (ix2 r l) = sumRow m c (rowOf t.val r) (512 * (t.val % 11)) l) :
    k0_pay2 n (iblk m c 2 t) (iblk m c 3 t) a (iblk m c 4 t) (ix2 r l) = sumRow m c (rowOf t.val r) (512 * (t.val % 11 + 1)) l := by
  rw [pay2_apply]
  exact partialRow_step _ _ _ _ (t.val % 11) (Nat.mod_lt _ (by decide)) l _ (fun k => n (ix2 r k)) (fun k u => (iblk m c 2 t : Vec Ideal S2048x512 .bf16) (ix2 k u))
    (fun k u => (iblk m c 3 t : Vec Ideal S2048x512 .bf16) (ix2 k u)) (fun u => (iblk m c 4 t : Vec Ideal S512x2048 .bf16) (ix2 u l)) ha hn
    (blk2 m c t) (blk3 m c t) (fun u => blk4 m c t u l)

theorem normed_block (c : Dev nD) (t : Fin cfg0.N) (r : Fin 1024) (k : Fin 2048) :
    k0_pay1 (F := Ideal) (iblk m c 0 t) (iblk m c 1 t) (ix2 r k) = normed (fX (aX m c) (rowOf t.val r)) (fG (aG m c)) k := by
  rw [pay1_apply]
  exact congrFun (congrArg₂ normed (funext fun k => blk0 m c t r k) (funext fun k => blk1 m c t k)) k

theorem holds_first (c : Dev nD) (t : Fin cfg0.N) (acc) (h0 : t.val % 11 = 0) : Holds m c t.val (Value.stAt0 m c t.val t.isLt acc) := by
  rw [Value.stAt0_A m c t acc h0, kept_first, sum_first]
  refine ⟨normed_block m c t, fun r l => block_sum m c t _ _ r l (normed_block m c t r) ?_⟩
  rw [h0]
  exact (blk0 m c t r l).trans (congrFun (partialRow_zero _ _ _ _) l).symm

theorem holds_next (c : Dev nD) (n : ℕ) (hn : n + 1 < cfg0.N) (acc) (h0 : ¬(n + 1) % 11 = 0) (ih : Holds m c n acc) :
    Holds m c (n + 1) (Value.stAt0 m c (n + 1) hn acc) := by
  have e : (n + 1) / 11 = n / 11 := by omega
  have e' : n % 11 + 1 = (n + 1) % 11 := by omega
  have row : ∀ r, rowOf n r = rowOf (n + 1) r := fun r =>
    Fin.ext (by show (1024 * (n / 11) + r.val) % 32768 = (1024 * ((n + 1) / 11) + r.val) % 32768; rw [e])
  have hk : ∀ r k, acc.2 (ix2 r k) = normed (fX (aX m c) (rowOf (n + 1) r)) (fG (aG m c)) k := fun r k => by rw [← row]; exact ih.kept r k
  have hs : ∀ r l, acc.1 (ix2 r l) = sumRow m c (rowOf (n + 1) r) (512 * ((n + 1) % 11)) l := fun r l => by
    rw [← row, ← e']; exact ih.sums r l
  rw [Value.stAt0_B m c ⟨n + 1, hn⟩ acc h0, sum_next]
  exact ⟨hk, fun r l => block_sum m c ⟨n + 1, hn⟩ acc.2 acc.1 r l (hk r) (hs r l)⟩

theorem holds (c : Dev nD) : ∀ (n : ℕ) (hn : n < cfg0.N), Holds m c n (outsAt0 m c n hn)
  | 0, hn => by rw [Value.outsAt0_zero]; exact holds_first m c ⟨0, hn⟩ _ rfl
  | n + 1, hn => by
    rw [Value.outsAt0_succ]
    by_cases h0 : (n + 1) % 11 = 0
    · exact holds_first m c ⟨n + 1, hn⟩ _ h0
    · exact holds_next m c n hn _ h0 (holds c n _)

/-- The kernel's output array: every row of the stream sent through the layer. -/
theorem final_apply (c : Dev nD) (r : Fin 32768) (l : Fin 2048) :
    (Value.G6 m c : Vec Ideal S32768x2048 .f32) (ix2 r l)
      = row (fX (aX m c) r) (fG (aG m c)) (fW (aW m c)) (fO (aO m c)) l := by
  have hp : Value.pt6Of (ix2 r l) = 11 * (r.val / 1024) + 10 := by
    show 11 * (1 * (r.val / 1024 - 0) + 1 * (l.val / 2048 - 0)) + 10 = _
    omega
  have hN : Value.pt6Of (ix2 r l) < cfg0.N := by rw [hp]; exact lt_of_lt_of_eq (by omega) N_0.symm
  have hl : Value.loc6Of (ix2 r l) = ix2 ⟨r.val % 1024, by omega⟩ l := by
    funext a
    apply Fin.ext
    match a with
    | ⟨0, _⟩ => rfl
    | ⟨1, _⟩ => exact Nat.mod_eq_of_lt l.isLt
  unfold Value.G6
  rw [dif_pos hN, ← Value.outsAt0_sweep m c _ hN, hl, (holds m c _ hN).sums, show 512 * (Value.pt6Of (ix2 r l) % 11 + 1) = 512 * 11 by rw [hp]; omega, sumRow,
    partialRow_all]
  have hr : rowOf (Value.pt6Of (ix2 r l)) ⟨r.val % 1024, by omega⟩ = r := by
    apply Fin.ext
    show (1024 * (Value.pt6Of (ix2 r l) / 11) + r.val % 1024) % 32768 = r.val
    rw [hp]
    omega
  rw [hr]

/-- The kernel's output array is the reference's result of the same arguments. -/
theorem total_eq (c : Dev nD) :
    Value.G6 m c = Cert.FfnMidReferenceIdeal.Read.val_main_v24 (F := Ideal) (aX m c) (aG m c) (aW m c) (aO m c) := by
  funext i
  obtain ⟨r, l, rfl⟩ : ∃ (r : Fin 32768) (l : Fin 2048), i = ix2 r l := ⟨i 0, i 1, eq_ix2 i⟩
  exact (final_apply m c r l).trans (Cert.FfnFinalValue.reference_row _ _ _ _ r l).symm

end Cert.FfnMidValue

end
-- ==== Proof.OutProjValue.lean ====
module

public import Idealize.ShloMosaic.Lib.Pointwise
public import Idealize.ShloMosaic.Lib.Pipeline.Value
public import Idealize.ShloMosaic.Lib.StableHlo.Run
public import proofs.«01_k».proof.Proof.Gen.OutProjIdeal.Value
public import proofs.«01_k».proof.Proof.Gen.OutProjReferenceIdeal.Read

@[expose] public section

noncomputable section

/-! # The output projection: the kernel's blocks against one product with the whole weight -/

namespace Cert.OutProjValue

open Idealize.ShloMosaic Idealize.ShloMosaic.TcCoe Idealize.SL.Sem
open Cert.OutProjIdeal Cert.OutProjIdeal.Gen

theorem hz : (![0, 0] : Fin 2 → Nat) = fun _ => 0 := funext fun a => by fin_cases a <;> rfl

/-- One block of the kernel's output at an index: the stream plus the two products. -/
theorem block_apply (x0 : Vec Ideal S512x2048 .f32) (x1 x2 : Vec Ideal S512x1024 .bf16)
    (x3 x4 : Vec Ideal S1024x2048 .bf16) (r : Fin 512) (l : Fin 2048) :
    out0_5 x0 x1 x2 x3 x4 (ix2 r l)
      = x0 (ix2 r l) + (∑ k : Fin 1024, x1 (ix2 r k) * x3 (ix2 k l)) + ∑ k : Fin 1024, x2 (ix2 r k) * x4 (ix2 k l) := by
  unfold out0_5 r0_0 r0_1 r0_2
  rw [View.canon_unit_zero hz]
  simp only [View.ld_unit_zero (S := S512x2048) hz, View.ld_unit_zero (S := S512x1024) hz,
    View.ld_unit_zero (S := S1024x2048) hz]
  pointwise [k0_pay1]

variable (m : (ℓ : Loc nD τ sig) → Buf (Elt Ideal) ℓ)

/-- The arguments, as arrays of extended reals. -/
abbrev aH (c : Dev nD) : Vec Ideal S32768x2048 .f32 := m ((c : Thread nD τ).loc main_arg0)
abbrev aA (c : Dev nD) : Vec Ideal S32768x1024 .bf16 := m ((c : Thread nD τ).loc main_arg1)
abbrev aB (c : Dev nD) : Vec Ideal S32768x1024 .bf16 := m ((c : Thread nD τ).loc main_arg2)
abbrev aW (c : Dev nD) : Vec Ideal S1x2048x2048 .f32 := m ((c : Thread nD τ).loc main_arg3)

/-- The weight as the host narrows it: at the extended reals, the same numbers. -/
def narrowed (c : Dev nD) : FVec Ideal S2048x2048 .bf16 :=
  have w : FVec Ideal S2048x2048 .f32 := shapeCast S2048x2048 (aW m c) shapeCasts_S1x2048x2048_S2048x2048
  truncf .bf16 w bitsLt_bf16_f32

/-- The upper half of the weight, as the kernel finds it. -/
theorem upper_apply (c : Dev nD) (k : Fin 1024) (l : Fin 2048) :
    (V m c main_v2 : Vec Ideal S1024x2048 .bf16) (ix2 k l) = aW m c (ix3 0 ⟨k.val, by omega⟩ l) := by
  have e : @Eq (Vec Ideal S1024x2048 .bf16) (V m c main_v2)
      (extractStridedSlice S1024x2048 ![0, 0] (narrowed m c) slices_S2048x2048_S1024x2048_0_0) := by
    unfold V
    after_results <;> rfl
  rw [e]
  pointwise [narrowed]

/-- The lower half of the weight. -/
theorem lower_apply (c : Dev nD) (k : Fin 1024) (l : Fin 2048) :
    (V m c main_v3 : Vec Ideal S1024x2048 .bf16) (ix2 k l) = aW m c (ix3 0 ⟨1024 + k.val, by omega⟩ l) := by
  have e : @Eq (Vec Ideal S1024x2048 .bf16) (V m c main_v3)
      (extractStridedSlice S1024x2048 ![1024, 0] (narrowed m c) slices_S2048x2048_S1024x2048_1024_0) := by
    unfold V
    after_results <;> rfl
  rw [e]
  pointwise [narrowed]

/-- Which block each window stages at point `t`: row block `t` of the streams, the whole of the weights. -/
theorem index_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = 0 ∧ win0_3.index t 1 = 0)
      ∧ (win0_4.index t 0 = 0 ∧ win0_4.index t 1 = 0) ∧ (win0_5.index t 0 = t.val ∧ win0_5.index t 1 = 0) :=
  (by decide +kernel : ∀ t : Fin grid0.N, _)

theorem point_lt (t : Fin cfg0.N) : t.val < 64 := lt_of_lt_of_eq t.isLt (show cfg0.N = 64 from N_0)

theorem blk0 (c : Dev nD) (t : Fin cfg0.N) (r : Fin 512) (l : Fin 2048) :
    (iblk m c 0 t : Vec Ideal S512x2048 .f32) (ix2 r l)
      = aH m c (ix2 ⟨t.val * 512 + r.val, by have := point_lt t; omega⟩ l) := by
  obtain ⟨h, -⟩ := index_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [h.1]; omega
  | ⟨1, _⟩ => show win0_0.index t 1 * 2048 + 1 * l.val = l.val; rw [h.2]; omega

theorem blk1 (c : Dev nD) (t : Fin cfg0.N) (r : Fin 512) (l : Fin 1024) :
    (iblk m c 1 t : Vec Ideal S512x1024 .bf16) (ix2 r l)
      = aA m c (ix2 ⟨t.val * 512 + r.val, by have := point_lt t; omega⟩ l) := by
  obtain ⟨-, h, -⟩ := index_facts t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = t.val * 512 + r.val; rw [h.1]; omega
  | ⟨1, _⟩ => show win0_1.index t 1 * 1024 + 1 * l.val = l.val; rw [h.2]; omega

theorem blk2 (c : Dev nD) (t : Fin cfg0.N) (r : Fin 512) (l : Fin 1024) :
    (iblk m c 2 t : Vec Ideal S512x1024 .bf16) (ix2 r l)
      = aB m c (ix2 ⟨t.val * 512 + r.val, by have := point_lt t; omega⟩ l) := by
  obtain ⟨-, -, h, -⟩ := index_facts t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = t.val * 512 + r.val; rw [h.1]; omega
  | ⟨1, _⟩ => show win0_2.index t 1 * 1024 + 1 * l.val = l.val; rw [h.2]; omega

theorem blk3 (c : Dev nD) (t : Fin cfg0.N) (k : Fin 1024) (l : Fin 2048) :
    (iblk m c 3 t : Vec Ideal S1024x2048 .bf16) (ix2 k l) = aW m c (ix3 0 ⟨k.val, by omega⟩ l) := by
  obtain ⟨-, -, -, h, -⟩ := index_facts t
  rw [← upper_apply]
  unfold iblk
  rw [View.read_apply]
  show V m c main_v2 _ = V m c main_v2 _
  congr 1
  funext a
  apply Fin.ext
  match a with
  | ⟨0, _⟩ => show win0_3.index t 0 * 1024 + 1 * k.val = k.val; rw [h.1]; omega
  | ⟨1, _⟩ => show win0_3.index t 1 * 2048 + 1 * l.val = l.val; rw [h.2]; omega

theorem blk4 (c : Dev nD) (t : Fin cfg0.N) (k : Fin 1024) (l : Fin 2048) :
    (iblk m c 4 t : Vec Ideal S1024x2048 .bf16) (ix2 k l) = aW m c (ix3 0 ⟨1024 + k.val, by omega⟩ l) := by
  obtain ⟨-, -, -, -, h, -⟩ := index_facts t
  rw [← lower_apply]
  unfold iblk
  rw [View.read_apply]
  show V m c main_v3 _ = V m c main_v3 _
  congr 1
  funext a
  apply Fin.ext
  match a with
  | ⟨0, _⟩ => show win0_4.index t 0 * 1024 + 1 * k.val = k.val; rw [h.1]; omega
  | ⟨1, _⟩ => show win0_4.index t 1 * 2048 + 1 * l.val = l.val; rw [h.2]; omega

/-- The whole output: the stream plus the product with the upper half plus the product with the lower half. -/
def total (c : Dev nD) : Vec Ideal S32768x2048 .f32 := fun i =>
  aH m c i + (∑ k : Fin 1024, aA m c (ix2 (i 0) k) * aW m c (ix3 0 ⟨k.val, by omega⟩ (i 1)))
    + ∑ k : Fin 1024, aB m c (ix2 (i 0) k) * aW m c (ix3 0 ⟨1024 + k.val, by omega⟩ (i 1))

theorem flushed_eq (c : Dev nD) (t : Fin cfg0.N) :
    (dats m 0 c).flushed 5 t = ((cfg0.win 5).blk t).view.read (Elt Ideal) (total m c) := by
  obtain ⟨-, -, -, -, -, h⟩ := index_facts t
  rw [Value.flushed5]
  funext y
  obtain ⟨r, l, rfl⟩ : ∃ (r : Fin 512) (l : Fin 2048), y = ix2 r l := ⟨y 0, y 1, eq_ix2 y⟩
  show out0_5 _ _ _ _ _ (ix2 r l) = total m c (((cfg0.win 5).blk t).view.emb (ix2 r l))
  have e : ((cfg0.win 5).blk t).view.emb (ix2 r l) = (ix2 ⟨t.val * 512 + r.val, by have := point_lt t; omega⟩ l : S32768x2048.Idx) := by
    funext a
    apply Fin.ext
    match a with
    | ⟨0, _⟩ => show win0_5.index t 0 * 512 + 1 * r.val = t.val * 512 + r.val; rw [h.1]; omega
    | ⟨1, _⟩ => show win0_5.index t 1 * 2048 + 1 * l.val = l.val; rw [h.2]; omega
  rw [e, block_apply, blk0]
  simp only [blk1, blk2, blk3, blk4]
  rfl

/-- An index is in point `t`'s block iff its row is among the block's 512. -/
theorem mem_blk (t : Fin cfg0.N) (i : S32768x2048.Idx) (h : t.val * 512 ≤ (i 0).val ∧ (i 0).val < t.val * 512 + 512) :
    i ∈ ((cfg0.win 5).blk t).view.set := by
  show i ∈ ((View.whole main_v4).slice (win0_5.rect t)).set
  rw [View.set_slice_whole, Rect.mem_set_unit]
  obtain ⟨-, -, -, -, -, e⟩ := index_facts t
  have h1 : (i 1).val < 2048 := (i 1).isLt
  intro a
  match a with
  | ⟨0, _⟩ => show win0_5.index t 0 * 512 ≤ (i 0).val ∧ (i 0).val < win0_5.index t 0 * 512 + 512; rw [e.1]; exact h
  | ⟨1, _⟩ => show win0_5.index t 1 * 2048 ≤ (i 1).val ∧ (i 1).val < win0_5.index t 1 * 2048 + 2048; rw [e.2, Nat.zero_mul, Nat.zero_add]; exact ⟨Nat.zero_le _, h1⟩

theorem covered (i : S32768x2048.Idx) : ∃ t : Fin cfg0.N, (cfg0.win 5).flush t = true ∧ i ∈ ((cfg0.win 5).blk t).view.set := by
  have h0 : (i 0).val < 32768 := (i 0).isLt
  exact ⟨⟨(i 0).val / 512, lt_of_lt_of_eq (by omega) N_0.symm⟩, flush0_5 _, mem_blk _ i (by dsimp only; omega)⟩

theorem final_eq (c : Dev nD) : (dats m 0 c).arrAt 5 cfg0.N = total m c :=
  (dats m 0 c).arrAt_eq_of_cover 5 (total m c) (fun t _ => flushed_eq m c t) covered

/-- The reference's one product over the joined outputs is the kernel's two. -/
theorem reference_eq (x0 : Vec Ideal S32768x2048 .f32) (x1 x2 : Vec Ideal S32768x1024 .bf16) (x3 : Vec Ideal S1x2048x2048 .f32)
    (r : Fin 32768) (l : Fin 2048) :
    Cert.OutProjReferenceIdeal.Read.val_main_v5 (F := Ideal) x0 x1 x2 x3 (ix2 r l)
      = x0 (ix2 r l) + (∑ k : Fin 1024, x1 (ix2 r k) * x3 (ix3 0 ⟨k.val, by omega⟩ l))
        + ∑ k : Fin 1024, x2 (ix2 r k) * x3 (ix3 0 ⟨1024 + k.val, by omega⟩ l) := by
  rw [Cert.OutProjReferenceIdeal.Read.val_main_v5_apply, Cert.OutProjReferenceIdeal.Read.val_main_v4_apply]
  have split : ∀ f : Fin 2048 → EReal, ∑ k, f k
      = (∑ k : Fin 1024, f ⟨k.val, by omega⟩) + ∑ k : Fin 1024, f ⟨1024 + k.val, by omega⟩ :=
    fun f => Fin.sum_univ_add (a := 1024) (b := 1024) f
  have left : ∀ k : Fin 1024, Cert.OutProjReferenceIdeal.Read.val_main_v2 (F := Ideal) x1 x2 (ix2 r ⟨k.val, by omega⟩) = x1 (ix2 r k) := fun k =>
    concatenate_pair_apply_left (t := Cert.OutProjReferenceIdeal.S32768x2048) 1 x1 x2 _ _ rfl (ix2 r k) fun b => by
      match b with
      | ⟨0, _⟩ => rfl
      | ⟨1, _⟩ => rfl
  have right : ∀ k : Fin 1024, Cert.OutProjReferenceIdeal.Read.val_main_v2 (F := Ideal) x1 x2 (ix2 r ⟨1024 + k.val, by omega⟩) = x2 (ix2 r k) := fun k =>
    concatenate_pair_apply_right (t := Cert.OutProjReferenceIdeal.S32768x2048) 1 x1 x2 _ _ rfl rfl (ix2 r k) (fun b hb => by
      match b with
      | ⟨0, _⟩ => rfl
      | ⟨1, _⟩ => exact absurd rfl hb) (Nat.add_comm _ _)
  have weight : ∀ k : Fin 2048, Cert.OutProjReferenceIdeal.Read.val_main_v3 (F := Ideal) x3 (ix2 k l) = x3 (ix3 0 k l) := fun k => by
    pointwise [Cert.OutProjReferenceIdeal.Read.val_main_v3]
  have el : ∀ k, Cert.OutProjReferenceIdeal.Read.lidx_main_v4 (ix2 r l) k = ix2 r k := fun k => eq_ix2 _
  have er : ∀ k, Cert.OutProjReferenceIdeal.Read.ridx_main_v4 (ix2 r l) k = ix2 k l := fun k => eq_ix2 _
  simp only [el, er, weight, split, left, right]
  exact (add_assoc _ _ _).symm

/-- The kernel's output array is the reference's result of the same arguments. -/
theorem total_eq (c : Dev nD) :
    total m c = Cert.OutProjReferenceIdeal.Read.val_main_v5 (F := Ideal) (aH m c) (aA m c) (aB m c) (aW m c) := by
  funext i
  obtain ⟨r, l, rfl⟩ : ∃ (r : Fin 32768) (l : Fin 2048), i = ix2 r l := ⟨i 0, i 1, eq_ix2 i⟩
  exact (reference_eq _ _ _ _ r l).symm

end Cert.OutProjValue

end
-- ==== Proof.LayerClaims.lean ====
module

public import Idealize.ShloMosaic.Lib.Claim
public import proofs.«01_k».proof.Defs
public import proofs.«01_k».proof.Proof.FfnMidValue
public import proofs.«01_k».proof.Proof.FfnFinalValue
public import proofs.«01_k».proof.Proof.OutProjValue

@[expose] public section

noncomputable section

/-! # The value claims and the references' frames of the feed-forward layers and the output projection -/

namespace Cert.LayerClaims

open Idealize.ShloMosaic Idealize.ShloMosaic.TcCoe Idealize.SL.Sem

/-- The first feed-forward layer's reference runs and leaves its arguments alone; it has no semaphore. -/
theorem frame_mid_reference : Cert.quiescent_FfnMidReferenceIdeal := fun m ρ _ =>
  (θ_run Cert.FfnMidReferenceIdeal.defs _ _).mono (fun r h => ⟨fun c => (h c).2, sem_eq_zero_of_no_sems (by decide) r.2⟩)
    (Cert.FfnMidReferenceIdeal.Value.run (F := Ideal) m ρ)

theorem frame_final_reference : Cert.quiescent_FfnFinalReferenceIdeal := fun m ρ _ =>
  (θ_run Cert.FfnFinalReferenceIdeal.defs _ _).mono (fun r h => ⟨fun c => (h c).2, sem_eq_zero_of_no_sems (by decide) r.2⟩)
    (Cert.FfnFinalReferenceIdeal.Value.run (F := Ideal) m ρ)

theorem frame_outproj_reference : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- The first feed-forward layer's kernel computes what its reference does. -/
theorem algebraic_mid : Cert.algebraic_FfnMidIdeal_FfnMidReferenceIdeal := by
  intro m ρ m' ρ' _ agree
  refine ⟨fun c => Cert.FfnMidIdeal.Value.G6 m c, Cert.FfnMidIdeal.Value.run m ρ,
    (θ_run Cert.FfnMidReferenceIdeal.defs _ _).mono (fun _ h c => ⟨(h c).1.trans ?_, (h c).2⟩) (Cert.FfnMidReferenceIdeal.Value.run (F := Ideal) m' ρ')⟩
  obtain ⟨e0, e1, e2, e3, -⟩ := agree c
  refine (Cert.FfnMidReferenceIdeal.Read.val_main_v24_eq _ _ _ _).trans ?_
  rw [e0, e1, e2, e3]
  exact (Cert.FfnMidValue.total_eq m c).symm

/-- The last feed-forward layer's kernel, with the final norm, computes what its reference does. -/
theorem algebraic_final : Cert.algebraic_FfnFinalIdeal_FfnFinalReferenceIdeal := by
  intro m ρ m' ρ' _ agree
  refine ⟨fun c => Cert.FfnFinalIdeal.Value.G6 m c, Cert.FfnFinalIdeal.Value.run m ρ,
    (θ_run Cert.FfnFinalReferenceIdeal.defs _ _).mono (fun _ h c => ⟨(h c).1.trans ?_, (h c).2⟩) (Cert.FfnFinalReferenceIdeal.Value.run (F := Ideal) m' ρ')⟩
  obtain ⟨e0, e1, e2, e3, e4⟩ := agree c
  refine (Cert.FfnFinalReferenceIdeal.Read.val_main_v37_eq m' c).trans ?_
  rw [e0, e1, e2, e3, e4]
  exact (Cert.FfnFinalValue.total_eq m c).symm

/-- The output projection's kernel computes what its reference does. -/
theorem algebraic_outproj : Cert.algebraic_OutProjIdeal_OutProjReferenceIdeal := by
  intro m ρ m' ρ' _ agree
  refine ⟨fun c => Cert.OutProjValue.total m c,
    (θ_run Cert.OutProjIdeal.defs _ _).mono (fun _ h c => ⟨(h c).1.trans (Cert.OutProjValue.final_eq m c), (h c).2⟩) (Cert.OutProjIdeal.Value.run_blocks m ρ),
    (θ_run Cert.OutProjReferenceIdeal.defs _ _).mono (fun _ h c => ⟨(h c).1.trans ?_, (h c).2⟩) (Cert.OutProjReferenceIdeal.Value.run (F := Ideal) m' ρ')⟩
  obtain ⟨e0, e1, e2, e3⟩ := agree c
  refine (Cert.OutProjReferenceIdeal.Read.val_main_v5_eq _ _ _ _).trans ?_
  rw [e0, e1, e2, e3]
  exact (Cert.OutProjValue.total_eq m c).symm

end Cert.LayerClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.FfnMid
public import proofs.«01_k».proof.Proof.Gen.FfnMid.Skeleton
public import proofs.«01_k».proof.Proof.Gen.FfnMid.Launch
public import proofs.«01_k».proof.Proof.Gen.FfnMid.Points
public import proofs.«01_k».proof.Proof.Gen.FfnMid.Frame
public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import proofs.«01_k».proof.Proof.Gen.FfnMidReferenceIdeal
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.FfnMidIdeal.Value
public import proofs.«01_k».proof.Proof.Gen.FfnFinalIdeal.Value
public import proofs.«01_k».proof.Proof.Gen.OutProjIdeal.Value
public import proofs.«01_k».proof.Proof.Gen.FfnMidReferenceIdeal.Read
public import proofs.«01_k».proof.Proof.Gen.FfnFinalReferenceIdeal.Read
public import proofs.«01_k».proof.Proof.Gen.OutProjReferenceIdeal.Read
public import proofs.«01_k».proof.Proof.Gen.Pre_in_pool
public import proofs.«01_k».proof.Proof.BitsClaim
public import proofs.«01_k».proof.Proof.DecodeClaim
public import proofs.«01_k».proof.Proof.LayerClaims
public import Idealize.ShloMosaic.Adequacy
public import Idealize.ShloMosaic.Init

@[expose] public section

noncomputable section

/-! # The certificate: every claim of the statement, from the frames and the value proofs of its programs -/

namespace Cert.Proof

open Idealize.ShloMosaic Idealize.SL.Sem Cert.Kernel

/-- All claims of the statement hold. -/
theorem claim : Cert.Claim := ⟨Cert.Kernel.Gen.facts, Cert.KernelIdeal.Gen.facts, Cert.ReferenceIdeal.Gen.facts, Cert.FfnMid.Gen.facts, Cert.FfnMidIdeal.Gen.facts, Cert.FfnMidReferenceIdeal.Gen.facts, Cert.FfnFinal.Gen.facts, Cert.FfnFinalIdeal.Gen.facts, Cert.FfnFinalReferenceIdeal.Gen.facts, Cert.OutProj.Gen.facts, Cert.OutProjIdeal.Gen.facts, Cert.OutProjReferenceIdeal.Gen.facts, Cert.Pre_in_pool.Gen.facts, by
  exact ⟨BitsClaim.frame_kernel,
    DecodeClaim.frame_ideal,
    DecodeClaim.frame_reference,
    fun m ρ _ => Cert.FfnMid.Gen.frame m ρ,
    fun m ρ _ => Cert.FfnMidIdeal.Gen.frame m ρ,
    LayerClaims.frame_mid_reference,
    fun m ρ _ => Cert.FfnFinal.Gen.frame m ρ,
    fun m ρ _ => Cert.FfnFinalIdeal.Gen.frame m ρ,
    LayerClaims.frame_final_reference,
    fun m ρ _ => Cert.OutProj.Gen.frame m ρ,
    fun m ρ _ => Cert.OutProjIdeal.Gen.frame m ρ,
    LayerClaims.frame_outproj_reference,
    DecodeClaim.preserves,
    DecodeClaim.algebraic,
    trivial,
    LayerClaims.algebraic_mid,
    trivial,
    LayerClaims.algebraic_final,
    trivial,
    LayerClaims.algebraic_outproj⟩⟩

end Cert.Proof

end
